-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "qscale" .f32 0x3E16C740#32 (((Real.log 2)⁻¹ * (Real.sqrt 96)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 64]⟩ ⟨2, ![1024, 128]⟩ (Layout.meshBlock [2, 2, 4] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![64, 1024]⟩ ⟨2, ![128, 1024]⟩ (Layout.meshBlock [2, 2, 4] ![[1], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![64, 1024]⟩ ⟨2, ![128, 1024]⟩ (Layout.meshBlock [2, 2, 4] ![[1], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v43) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S_ : Shape := ⟨0, ![]⟩

class Facts : Prop where
  bcast_S_S2x256x1024 : S_.BroadcastsInDim S2x256x1024 (![] : Fin 0 → Fin S2x256x1024.rank)
  bcast_S_S1024x64 : S_.BroadcastsInDim S1024x64 (![] : Fin 0 → Fin S1024x64.rank)
  bcast_S_S64x1024 : S_.BroadcastsInDim S64x1024 (![] : Fin 0 → Fin S64x1024.rank)
  bcast_S_S1024x1024 : S_.BroadcastsInDim S1024x1024 (![] : Fin 0 → Fin S1024x1024.rank)
  bcast_S_S1024x512 : S_.BroadcastsInDim S1024x512 (![] : Fin 0 → Fin S1024x512.rank)
  bcast_S_S1024x32 : S_.BroadcastsInDim S1024x32 (![] : Fin 0 → Fin S1024x32.rank)

variable [Facts]

def fn {F : FTy → Type} [FloatOps F] (main_arg0 : FVec F S2x256x1024 .bf16) (main_arg1 : FVec F S1024x64 .bf16) (main_arg2 : FVec F S64x1024 .bf16) (main_arg3 : FVec F S64x1024 .bf16) (main_arg4 : FVec F S1024x1024 .bf16) (main_arg5 : FVec F S1024x512 .bf16) (main_arg6 : FVec F S1024x32 .bf16) (main_arg7 : FVec F S1024x1024 .bf16) : IVec S2x256x1024 1 × IVec S1024x64 1 × IVec S64x1024 1 × IVec S1024x1024 1 × IVec S1024x512 1 × IVec S1024x32 1 :=
  let main_v0 : FVec F S2x256x1024 .bf16 := Host.absf main_arg0
  let main_cst : FVec F S_ .bf16 := constant S_ .bf16 0x7F80#16
  let main_v1 : FVec F S2x256x1024 .bf16 := broadcastInDim S2x256x1024 ![] bcast_S_S2x256x1024 main_cst
  let main_v2 : IVec S2x256x1024 1 := cmpf .olt main_v0 main_v1
  let main_v3 : FVec F S1024x64 .bf16 := Host.absf main_arg1
  let main_cst_0 : FVec F S_ .bf16 := constant S_ .bf16 0x7F80#16
  let main_v4 : FVec F S1024x64 .bf16 := broadcastInDim S1024x64 ![] bcast_S_S1024x64 main_cst_0
  let main_v5 : IVec S1024x64 1 := cmpf .olt main_v3 main_v4
  let main_v6 : FVec F S64x1024 .bf16 := Host.absf main_arg2
  let main_cst_1 : FVec F S_ .bf16 := constant S_ .bf16 0x7F80#16
  let main_v7 : FVec F S64x1024 .bf16 := broadcastInDim S64x1024 ![] bcast_S_S64x1024 main_cst_1
  let main_v8 : IVec S64x1024 1 := cmpf .olt main_v6 main_v7
  let main_v9 : FVec F S1024x1024 .bf16 := Host.absf main_arg4
  let main_cst_2 : FVec F S_ .bf16 := constant S_ .bf16 0x7F80#16
  let main_v10 : FVec F S1024x1024 .bf16 := broadcastInDim S1024x1024 ![] bcast_S_S1024x1024 main_cst_2
  let main_v11 : IVec S1024x1024 1 := cmpf .olt main_v9 main_v10
  let main_v12 : FVec F S1024x512 .bf16 := Host.absf main_arg5
  let main_cst_3 : FVec F S_ .bf16 := constant S_ .bf16 0x7F80#16
  let main_v13 : FVec F S1024x512 .bf16 := broadcastInDim S1024x512 ![] bcast_S_S1024x512 main_cst_3
  let main_v14 : IVec S1024x512 1 := cmpf .olt main_v12 main_v13
  let main_v15 : FVec F S1024x32 .bf16 := Host.absf main_arg6
  let main_cst_4 : FVec F S_ .bf16 := constant S_ .bf16 0x7F80#16
  let main_v16 : FVec F S1024x32 .bf16 := broadcastInDim S1024x32 ![] bcast_S_S1024x32 main_cst_4
  let main_v17 : IVec S1024x32 1 := cmpf .olt main_v15 main_v16
  (main_v2, main_v5, main_v8, main_v11, main_v14, main_v17)
-- ==== Pre_finite_ReferenceIdeal.lean ====
abbrev S2x256x1024 : Shape := ⟨3, ![2, 256, 1024]⟩
abbrev S1024x128 : Shape := ⟨2, ![1024, 128]⟩
abbrev S128x1024 : Shape := ⟨2, ![128, 1024]⟩
abbrev S1024x1024 : Shape := ⟨2, ![1024, 1024]⟩
abbrev S1024x512 : Shape := ⟨2, ![1024, 512]⟩
abbrev S1024x32 : Shape := ⟨2, ![1024, 32]⟩
abbrev S_ : Shape := ⟨0, ![]⟩

class Facts : Prop where
  bcast_S_S2x256x1024 : S_.BroadcastsInDim S2x256x1024 (![] : Fin 0 → Fin S2x256x1024.rank)
  bcast_S_S1024x128 : S_.BroadcastsInDim S1024x128 (![] : Fin 0 → Fin S1024x128.rank)
  bcast_S_S128x1024 : S_.BroadcastsInDim S128x1024 (![] : Fin 0 → Fin S128x1024.rank)
  bcast_S_S1024x1024 : S_.BroadcastsInDim S1024x1024 (![] : Fin 0 → Fin S1024x1024.rank)
  bcast_S_S1024x512 : S_.BroadcastsInDim S1024x512 (![] : Fin 0 → Fin S1024x512.rank)
  bcast_S_S1024x32 : S_.BroadcastsInDim S1024x32 (![] : Fin 0 → Fin S1024x32.rank)

variable [Facts]

def fn {F : FTy → Type} [FloatOps F] (main_arg0 : FVec F S2x256x1024 .bf16) (main_arg1 : FVec F S1024x128 .bf16) (main_arg2 : FVec F S128x1024 .bf16) (main_arg3 : FVec F S128x1024 .bf16) (main_arg4 : FVec F S1024x1024 .bf16) (main_arg5 : FVec F S1024x512 .bf16) (main_arg6 : FVec F S1024x32 .bf16) (main_arg7 : FVec F S1024x1024 .bf16) : IVec S2x256x1024 1 × IVec S1024x128 1 × IVec S128x1024 1 × IVec S1024x1024 1 × IVec S1024x512 1 × IVec S1024x32 1 :=
  let main_v0 : FVec F S2x256x1024 .bf16 := Host.absf main_arg0
  let main_cst : FVec F S_ .bf16 := constant S_ .bf16 0x7F80#16
  let main_v1 : FVec F S2x256x1024 .bf16 := broadcastInDim S2x256x1024 ![] bcast_S_S2x256x1024 main_cst
  let main_v2 : IVec S2x256x1024 1 := cmpf .olt main_v0 main_v1
  let main_v3 : FVec F S1024x128 .bf16 := Host.absf main_arg1
  let main_cst_0 : FVec F S_ .bf16 := constant S_ .bf16 0x7F80#16
  let main_v4 : FVec F S1024x128 .bf16 := broadcastInDim S1024x128 ![] bcast_S_S1024x128 main_cst_0
  let main_v5 : IVec S1024x128 1 := cmpf .olt main_v3 main_v4
  let main_v6 : FVec F S128x1024 .bf16 := Host.absf main_arg2
  let main_cst_1 : FVec F S_ .bf16 := constant S_ .bf16 0x7F80#16
  let main_v7 : FVec F S128x1024 .bf16 := broadcastInDim S128x1024 ![] bcast_S_S128x1024 main_cst_1
  let main_v8 : IVec S128x1024 1 := cmpf .olt main_v6 main_v7
  let main_v9 : FVec F S1024x1024 .bf16 := Host.absf main_arg4
  let main_cst_2 : FVec F S_ .bf16 := constant S_ .bf16 0x7F80#16
  let main_v10 : FVec F S1024x1024 .bf16 := broadcastInDim S1024x1024 ![] bcast_S_S1024x1024 main_cst_2
  let main_v11 : IVec S1024x1024 1 := cmpf .olt main_v9 main_v10
  let main_v12 : FVec F S1024x512 .bf16 := Host.absf main_arg5
  let main_cst_3 : FVec F S_ .bf16 := constant S_ .bf16 0x7F80#16
  let main_v13 : FVec F S1024x512 .bf16 := broadcastInDim S1024x512 ![] bcast_S_S1024x512 main_cst_3
  let main_v14 : IVec S1024x512 1 := cmpf .olt main_v12 main_v13
  let main_v15 : FVec F S1024x32 .bf16 := Host.absf main_arg6
  let main_cst_4 : FVec F S_ .bf16 := constant S_ .bf16 0x7F80#16
  let main_v16 : FVec F S1024x32 .bf16 := broadcastInDim S1024x32 ![] bcast_S_S1024x32 main_cst_4
  let main_v17 : IVec S1024x32 1 := cmpf .olt main_v15 main_v16
  (main_v2, main_v5, main_v8, main_v11, main_v14, main_v17)
-- ==== Kernel.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S512x64 : Shape := ⟨2, ![512, 64]⟩
abbrev S64x2048 : Shape := ⟨2, ![64, 2048]⟩
abbrev S512x1536 : Shape := ⟨2, ![512, 1536]⟩
abbrev S512x2048 : Shape := ⟨2, ![512, 2048]⟩
abbrev S512x1024 : Shape := ⟨2, ![512, 1024]⟩
abbrev S2 : Shape := ⟨1, ![2]⟩
abbrev S_ : Shape := ⟨0, ![]⟩
abbrev S1 : Shape := ⟨1, ![1]⟩
abbrev S512x512 : Shape := ⟨2, ![512, 512]⟩
abbrev S512x32 : Shape := ⟨2, ![512, 32]⟩
abbrev S512x128 : Shape := ⟨2, ![512, 128]⟩
abbrev S128x2048 : Shape := ⟨2, ![128, 2048]⟩
abbrev S512x1 : Shape := ⟨2, ![512, 1]⟩
abbrev S256x96 : Shape := ⟨2, ![256, 96]⟩
abbrev S256x256 : Shape := ⟨2, ![256, 256]⟩
abbrev S256x65 : Shape := ⟨2, ![256, 65]⟩
abbrev S256x1 : Shape := ⟨2, ![256, 1]⟩
abbrev S256x64 : Shape := ⟨2, ![256, 64]⟩

abbrev nBuf : Space → Nat
  | .hbm => 9
  | .vmem => 17
  | .smem => 0
  | _ => 0

abbrev bufTy : (tb : Table) → Fin (tcTables nBuf tb) → BufTy
  | .hbm, ⟨0, _⟩ => ⟨S2x256x1024, .bf16⟩
  | .hbm, ⟨1, _⟩ => ⟨S1024x64, .bf16⟩
  | .hbm, ⟨2, _⟩ => ⟨S64x1024, .bf16⟩
  | .hbm, ⟨3, _⟩ => ⟨S64x1024, .bf16⟩
  | .hbm, ⟨4, _⟩ => ⟨S1024x1024, .bf16⟩
  | .hbm, ⟨5, _⟩ => ⟨S1024x512, .bf16⟩
  | .hbm, ⟨6, _⟩ => ⟨S1024x32, .bf16⟩
  | .hbm, ⟨7, _⟩ => ⟨S1024x1024, .bf16⟩
  | .hbm, ⟨8, _⟩ => ⟨S2x256x1024, .f32⟩
  | .local _ .vmem, ⟨0, _⟩ => ⟨S2x256x1024, .bf16⟩
  | .local _ .vmem, ⟨1, _⟩ => ⟨S1024x64, .bf16⟩
  | .local _ .vmem, ⟨2, _⟩ => ⟨S64x1024, .bf16⟩
  | .local _ .vmem, ⟨3, _⟩ => ⟨S64x1024, .bf16⟩
  | .local _ .vmem, ⟨4, _⟩ => ⟨S1024x1024, .bf16⟩
  | .local _ .vmem, ⟨5, _⟩ => ⟨S1024x512, .bf16⟩
  | .local _ .vmem, ⟨6, _⟩ => ⟨S1024x32, .bf16⟩
  | .local _ .vmem, ⟨7, _⟩ => ⟨S1024x1024, .bf16⟩
  | .local _ .vmem, ⟨8, _⟩ => ⟨S2x256x1024, .f32⟩
  | .local _ .vmem, ⟨9, _⟩ => ⟨S512x64, .bf16⟩
  | .local _ .vmem, ⟨10, _⟩ => ⟨S512x64, .bf16⟩
  | .local _ .vmem, ⟨11, _⟩ => ⟨S64x2048, .bf16⟩
  | .local _ .vmem, ⟨12, _⟩ => ⟨S64x2048, .bf16⟩
  | .local _ .vmem, ⟨13, _⟩ => ⟨S512x1536, .bf16⟩
  | .local _ .vmem, ⟨14, _⟩ => ⟨S512x1536, .bf16⟩
  | .local _ .vmem, ⟨15, _⟩ => ⟨S512x2048, .bf16⟩
  | .local _ .vmem, ⟨16, _⟩ => ⟨S512x1024, .bf16⟩
  | _, _ => ⟨S2x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5 : BitVec 32 := 4#32
  let v13 : BitVec 32 := Scalar.muli v9 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_17 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_16 : BitVec 32 := 8#32
  let v27 : BitVec 32 := Scalar.muli v2 c8_i32_16
  let v28 : BitVec 32 := Scalar.addi c0_i32_17 v27
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_18 : BitVec 32 := 4#32
  let v29 : BitVec 32 := Scalar.muli v9 c4_i32_18
  let v30 : BitVec 32 := Scalar.addi v28 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v31 : BitVec 32 := Scalar.muli v8 c1_i32_19
  let v32 : BitVec 32 := Scalar.addi v30 v31
  v32.toNat
def k0_dev3 (d0 : Dev nD) : Nat :=
  let c0_i32_30 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_29 : BitVec 32 := 8#32
  let v47 : BitVec 32 := Scalar.muli v2 c8_i32_29
  let v48 : BitVec 32 := Scalar.addi c0_i32_30 v47
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_31 : BitVec 32 := 4#32
  let v49 : BitVec 32 := Scalar.muli v9 c4_i32_31
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v51 : BitVec 32 := Scalar.muli v8 c1_i32_32
  let v52 : BitVec 32 := Scalar.addi v50 v51
  v52.toNat
abbrev stage0_0 : Fin 1 → Memref sig .tc .vmem S2x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KernelIdeal.lean ====
variable {F : FTy → Type} [FloatOps F] [Named F]
def κ : String → Option EReal := fun
  | "qscale" => some (((Real.log 2)⁻¹ * (Real.sqrt 96)⁻¹ : ℝ) : EReal)
  | _ => none
-- ==== ReferenceIdeal.lean ====
abbrev S2x256x1024 : Shape := ⟨3, ![2, 256, 1024]⟩
abbrev S1024x128 : Shape := ⟨2, ![1024, 128]⟩
abbrev S128x1024 : Shape := ⟨2, ![128, 1024]⟩
abbrev S1024x1024 : Shape := ⟨2, ![1024, 1024]⟩
abbrev S1024x512 : Shape := ⟨2, ![1024, 512]⟩
abbrev S1024x32 : Shape := ⟨2, ![1024, 32]⟩
abbrev S2x256x128 : Shape := ⟨3, ![2, 256, 128]⟩
abbrev S2x256x16x64 : Shape := ⟨4, ![2, 256, 16, 64]⟩
abbrev S2x256x512 : Shape := ⟨3, ![2, 256, 512]⟩
abbrev S2x256x16x32 : Shape := ⟨4, ![2, 256, 16, 32]⟩
abbrev S2x256x32 : Shape := ⟨3, ![2, 256, 32]⟩
abbrev S2x256x1x32 : Shape := ⟨4, ![2, 256, 1, 32]⟩
abbrev S_ : Shape := ⟨0, ![]⟩
abbrev S2x16x256x256 : Shape := ⟨4, ![2, 16, 256, 256]⟩
abbrev S2x16x256 : Shape := ⟨3, ![2, 16, 256]⟩
abbrev S2x16x256x1 : Shape := ⟨4, ![2, 16, 256, 1]⟩
abbrev S2x16x64x256 : Shape := ⟨4, ![2, 16, 64, 256]⟩

abbrev nBuf : Space → Nat
  | .hbm => 55
  | .vmem => 0
  | .smem => 0
  | _ => 0

abbrev bufTy : (tb : Table) → Fin (tcTables nBuf tb) → BufTy
  | .hbm, ⟨0, _⟩ => ⟨S2x256x1024, .bf16⟩
  | .hbm, ⟨1, _⟩ => ⟨S1024x128, .bf16⟩
  | .hbm, ⟨2, _⟩ => ⟨S128x1024, .bf16⟩
  | .hbm, ⟨3, _⟩ => ⟨S128x1024, .bf16⟩
  | .hbm, ⟨4, _⟩ => ⟨S1024x1024, .bf16⟩
  | .hbm, ⟨5, _⟩ => ⟨S1024x512, .bf16⟩
  | .hbm, ⟨6, _⟩ => ⟨S1024x32, .bf16⟩
  | .hbm, ⟨7, _⟩ => ⟨S1024x1024, .bf16⟩
  | .hbm, ⟨8, _⟩ => ⟨S2x256x128, .f32⟩
  | .hbm, ⟨9, _⟩ => ⟨S2x256x128, .bf16⟩
  | .hbm, ⟨10, _⟩ => ⟨S2x256x1024, .f32⟩
  | .hbm, ⟨11, _⟩ => ⟨S2x256x1024, .bf16⟩
  | .hbm, ⟨12, _⟩ => ⟨S2x256x16x64, .bf16⟩
  | .hbm, ⟨13, _⟩ => ⟨S2x256x1024, .f32⟩
  | .hbm, ⟨14, _⟩ => ⟨S2x256x1024, .bf16⟩
  | .hbm, ⟨15, _⟩ => ⟨S2x256x16x64, .bf16⟩
  | .hbm, ⟨16, _⟩ => ⟨S2x256x1024, .f32⟩
  | .hbm, ⟨17, _⟩ => ⟨S2x256x1024, .bf16⟩
  | .hbm, ⟨18, _⟩ => ⟨S2x256x16x64, .bf16⟩
  | .hbm, ⟨19, _⟩ => ⟨S2x256x512, .f32⟩
  | .hbm, ⟨20, _⟩ => ⟨S2x256x512, .bf16⟩
  | .hbm, ⟨21, _⟩ => ⟨S2x256x16x32, .bf16⟩
  | .hbm, ⟨22, _⟩ => ⟨S2x256x32, .f32⟩
  | .hbm, ⟨23, _⟩ => ⟨S2x256x32, .bf16⟩
  | .hbm, ⟨24, _⟩ => ⟨S2x256x1x32, .bf16⟩
  | .hbm, ⟨25, _⟩ => ⟨S_, .bf16⟩
  | .hbm, ⟨26, _⟩ => ⟨S_, .bf16⟩
  | .hbm, ⟨27, _⟩ => ⟨S2x16x256x256, .f32⟩
  | .hbm, ⟨28, _⟩ => ⟨S2x16x256x256, .bf16⟩
  | .hbm, ⟨29, _⟩ => ⟨S2x256x16x32, .bf16⟩
  | .hbm, ⟨30, _⟩ => ⟨S2x16x256x256, .f32⟩
  | .hbm, ⟨31, _⟩ => ⟨S2x16x256x256, .bf16⟩
  | .hbm, ⟨32, _⟩ => ⟨S2x16x256x256, .bf16⟩
  | .hbm, ⟨33, _⟩ => ⟨S2x16x256x256, .bf16⟩
  | .hbm, ⟨34, _⟩ => ⟨S2x16x256x256, .bf16⟩
  | .hbm, ⟨35, _⟩ => ⟨S_, .bf16⟩
  | .hbm, ⟨36, _⟩ => ⟨S2x16x256, .bf16⟩
  | .hbm, ⟨37, _⟩ => ⟨S2x16x256x1, .bf16⟩
  | .hbm, ⟨38, _⟩ => ⟨S2x16x256x256, .bf16⟩
  | .hbm, ⟨39, _⟩ => ⟨S2x16x256x256, .bf16⟩
  | .hbm, ⟨40, _⟩ => ⟨S2x16x256x256, .bf16⟩
  | .hbm, ⟨41, _⟩ => ⟨S2x16x256x256, .f32⟩
  | .hbm, ⟨42, _⟩ => ⟨S_, .f32⟩
  | .hbm, ⟨43, _⟩ => ⟨S2x16x256, .f32⟩
  | .hbm, ⟨44, _⟩ => ⟨S2x16x256x1, .f32⟩
  | .hbm, ⟨45, _⟩ => ⟨S2x16x256x1, .bf16⟩
  | .hbm, ⟨46, _⟩ => ⟨S2x16x256x256, .bf16⟩
  | .hbm, ⟨47, _⟩ => ⟨S2x16x256x256, .bf16⟩
  | .hbm, ⟨48, _⟩ => ⟨S2x16x64x256, .f32⟩
  | .hbm, ⟨49, _⟩ => ⟨S2x256x16x64, .f32⟩
  | .hbm, ⟨50, _⟩ => ⟨S2x256x16x64, .bf16⟩
  | .hbm, ⟨51, _⟩ => ⟨S2x256x1024, .bf16⟩
  | .hbm, ⟨52, _⟩ => ⟨S2x256x1024, .f32⟩
  | .hbm, ⟨53, _⟩ => ⟨S2x256x1024, .bf16⟩
  | .hbm, ⟨54, _⟩ => ⟨S2x256x1024, .f32⟩
  | _, _ => ⟨S2x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_1 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Proof.KernelIdealProtocol.lean ====
/-
The protocol between the two devices of a pair.

Device `c` sits at coordinate `y` of its mesh row; `peer c` is the device with the other `y` and the
same `x`, `z`. Each device keeps half of the latent dimension, and the pair exchanges halves:

* a barrier signal tells the peer that this device's two landing buffers may be written;
* two remote copies carry the half of the up-projections (`w`) and the half of the latent (`c`);
* each copy credits the sender's send cell and the receiver's receive cell.

Every cell has one duty, in round 0. The barrier's hands over the two landing buffers of the peer; a receive
cell's hands over the landing buffer holding the peer's half; a send cell's gives back the half share of the
source lent to the copy (the other half stays with the device, which reads the source while the copy flies).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resources of the exchange: one duty per cell. -/
abbrev UX : Type := URounds (GSem nD τ sig) Unit
/-- The pipeline's resources and the exchange's. -/
abbrev UU : Type := UR sig nD τ × UX

local notation "𝕄" => MT nD τ sig Unit (Elt F) ℕ UU ℕ

/-- Where the pipeline's resources sit. -/
abbrev EP : Emb (UR sig nD τ) (MT nD τ sig Unit (Elt F) ℕ UU ℕ) := embL
/-- Where the exchange's resources sit. -/
abbrev EX : Emb UX (MT nD τ sig Unit (Elt F) ℕ UU ℕ) := embR

variable (m : (ℓ : Loc nD τ sig) → Buf (Elt F) ℓ)

/-! ## The pair -/

/-- The device with the other `y` coordinate. -/
def peer (c : Dev nD) : Dev nD := ⟨k0_dev1 c, k0_dev1_lt c⟩

theorem peer_peer (c : Dev nD) : peer (peer c) = c := by
  refine Fin.ext ?_
  simp only [peer, k0_dev1_eq]
  revert c; decide

theorem dev2_peer (c : Dev nD) : (⟨k0_dev2 c, k0_dev2_lt c⟩ : Dev nD) = peer c :=
  Fin.ext ((k0_dev2_eq c).trans (k0_dev1_eq c).symm)
theorem dev3_peer (c : Dev nD) : (⟨k0_dev3 c, k0_dev3_lt c⟩ : Dev nD) = peer c :=
  Fin.ext ((k0_dev3_eq c).trans (k0_dev1_eq c).symm)

/-- The exchange of the two devices of every pair, as a permutation. -/
def swap : Dev nD ≃ Dev nD := ⟨peer, peer, peer_peer, peer_peer⟩

theorem eq_peer_iff {c d : Dev nD} : c = peer d ↔ d = peer c :=
  ⟨fun h => by rw [h, peer_peer], fun h => by rw [h, peer_peer]⟩

/-! ## The cells -/

/-- The semaphores of the two copies: of the latent half (0) and of the projections' half (1). -/
abbrev snd0 : DmaSem sig := ((cc0_scratch8.slice (Rect.unit (s := S2) ![0] S1.size inb_S2_S1_0)).squeeze S_ squeezes_S1_S_).sem
abbrev snd1 : DmaSem sig := ((cc0_scratch8.slice (Rect.unit (s := S2) ![1] S1.size inb_S2_S1_1)).squeeze S_ squeezes_S1_S_).sem
abbrev rcv0 : DmaSem sig := ((cc0_scratch9.slice (Rect.unit (s := S2) ![0] S1.size inb_S2_S1_0)).squeeze S_ squeezes_S1_S_).sem
abbrev rcv1 : DmaSem sig := ((cc0_scratch9.slice (Rect.unit (s := S2) ![1] S1.size inb_S2_S1_1)).squeeze S_ squeezes_S1_S_).sem
/-- The barrier semaphore. -/
abbrev barS : Sem sig := (SemArray.scalar (sig.barrier 0 rfl) : Sems sig S_).sem

/-- The five cells of a device: barrier, the two send cells, the two receive cells. -/
abbrev csem : Fin 5 → SemLoc sig
  | 0 => .reg barS | 1 => .dma snd0 | 2 => .dma snd1 | 3 => .dma rcv0 | 4 => .dma rcv1
/-- The four of them that belong to the kernel's own scratch. -/
abbrev osem : Fin 4 → SemLoc sig
  | 0 => .dma snd0 | 1 => .dma snd1 | 2 => .dma rcv0 | 3 => .dma rcv1

theorem csem_injective : Function.Injective csem := by decide

abbrev kcell (ck : Dev nD × Fin 5) : GSem nD τ sig := ((ck.1 : Thread nD τ), csem ck.2)

theorem kcell_injective : Function.Injective (kcell : Dev nD × Fin 5 → GSem nD τ sig) := by
  rintro ⟨c, k⟩ ⟨d, j⟩ h
  have h1 : c = d := congrArg (fun g : GSem nD τ sig => g.1.1) h
  have h2 : k = j := csem_injective (congrArg Prod.snd h)
  rw [h1, h2]

/-- Which of the five cells a semaphore is, if any. -/
def kindOf (s : SemLoc sig) : Option (Fin 5) :=
  if s = csem 0 then some 0 else if s = csem 1 then some 1 else if s = csem 2 then some 2
  else if s = csem 3 then some 3 else if s = csem 4 then some 4 else none

theorem kindOf_csem (k : Fin 5) : kindOf (csem k) = some k := by revert k; decide

/-! ## The buffers -/

abbrev cSend : Memref sig .tc .vmem S512x64 .bf16 := Memref.whole cc0_scratch0
abbrev cRecv : Memref sig .tc .vmem S512x64 .bf16 := Memref.whole cc0_scratch1
abbrev wSend : Memref sig .tc .vmem S64x2048 .bf16 := Memref.whole cc0_scratch2
abbrev wRecv : Memref sig .tc .vmem S64x2048 .bf16 := Memref.whole cc0_scratch3

/-- What a device's input windows hold: its blocks of the eight arguments. -/
def x0 (c : Dev nD) : (cc0_stg0_0 : Ref sig .tc).ty.Contents (Elt F) :=
  (win0_0.blk (0 : Fin 1)).view.read (Elt F) (m ((c : Thread nD τ).loc main_arg0))
def x1 (c : Dev nD) : (cc0_stg1_0 : Ref sig .tc).ty.Contents (Elt F) :=
  (win0_1.blk (0 : Fin 1)).view.read (Elt F) (m ((c : Thread nD τ).loc main_arg1))
def x2 (c : Dev nD) : (cc0_stg2_0 : Ref sig .tc).ty.Contents (Elt F) :=
  (win0_2.blk (0 : Fin 1)).view.read (Elt F) (m ((c : Thread nD τ).loc main_arg2))
def x3 (c : Dev nD) : (cc0_stg3_0 : Ref sig .tc).ty.Contents (Elt F) :=
  (win0_3.blk (0 : Fin 1)).view.read (Elt F) (m ((c : Thread nD τ).loc main_arg3))
def x4 (c : Dev nD) : (cc0_stg4_0 : Ref sig .tc).ty.Contents (Elt F) :=
  (win0_4.blk (0 : Fin 1)).view.read (Elt F) (m ((c : Thread nD τ).loc main_arg4))
def x5 (c : Dev nD) : (cc0_stg5_0 : Ref sig .tc).ty.Contents (Elt F) :=
  (win0_5.blk (0 : Fin 1)).view.read (Elt F) (m ((c : Thread nD τ).loc main_arg5))
def x6 (c : Dev nD) : (cc0_stg6_0 : Ref sig .tc).ty.Contents (Elt F) :=
  (win0_6.blk (0 : Fin 1)).view.read (Elt F) (m ((c : Thread nD τ).loc main_arg6))
def x7 (c : Dev nD) : (cc0_stg7_0 : Ref sig .tc).ty.Contents (Elt F) :=
  (win0_7.blk (0 : Fin 1)).view.read (Elt F) (m ((c : Thread nD τ).loc main_arg7))

/-- The latent half a device computes and sends. -/
def cHalf (c : Dev nD) : (cc0_scratch0 : Ref sig .tc).ty.Contents (Elt F) := k0_pay4 (x0 m c) (x1 m c)

/-- The up-projections' half a device sends: columns 0–1023 the keys', 1024–2047 the values'. -/
def wHalf (c : Dev nD) : (cc0_scratch2 : Ref sig .tc).ty.Contents (Elt F) :=
  (wSend : Memref sig .tc .vmem S64x2048 .bf16).view.writes (Elt F) (wSend : Memref sig .tc .vmem S64x2048 .bf16).view.junk
    [⟨Rect.unit (s := S64x2048) ![0, 1024] S64x1024.size inb_S64x2048_S64x1024_0_1024, k0_pay2 (x3 m c)⟩,
     ⟨Rect.unit (s := S64x2048) ![0, 0] S64x1024.size inb_S64x2048_S64x1024_0_0, k0_pay1 (x2 m c)⟩]

/-- The credits of the two copies. -/
abbrev Nc : ℕ := (cRecv : Memref sig .tc .vmem S512x64 .bf16).view.dmaCredit
abbrev Nw : ℕ := (wRecv : Memref sig .tc .vmem S64x2048 .bf16).view.dmaCredit
theorem Nc_pos : 0 < Nc := View.dmaCredit_pos _ (by decide)
theorem Nw_pos : 0 < Nw := View.dmaCredit_pos _ (by decide)

/-- Buffer `b` of device `c`, at share `q`, holding `f`. -/
abbrev holds (c : Dev nD) (b : Ref sig .tc) (q : PosShare TreeShare) (f : Buf (Elt F) ((c : Thread nD τ).loc b)) : sProp 𝕄 :=
  (Memref.whole b).view.loc (c : Thread nD τ) ↦{q} f

instance holds_storable (c : Dev nD) (b : Ref sig .tc) (q) (f) : BI.Storable (upEmb : UEmb _ 𝕄) (holds (F := F) c b q f) := by
  infer_instance

/-! ## The schedule -/

/-- The units a cell's duty is worth. -/
def amt : Fin 5 → ℕ | 0 => 1 | 1 => Nc | 2 => Nw | 3 => Nc | 4 => Nw

theorem amt_pos (k : Fin 5) : 0 < amt k := by
  fin_cases k
  exacts [Nat.one_pos, Nc_pos, Nw_pos, Nc_pos, Nw_pos]

/-- What a cell's duty hands over. -/
def pay (c : Dev nD) : Fin 5 → sProp 𝕄
  | 0 => iprop((∃ f, holds (F := F) (peer c) cc0_scratch1 fullShare f) ∗ (∃ f, holds (F := F) (peer c) cc0_scratch3 fullShare f))
  | 1 => holds c cc0_scratch0 fullShare.right (cHalf m c)
  | 2 => holds c cc0_scratch2 fullShare.right (wHalf m c)
  | 3 => holds c cc0_scratch1 fullShare (cHalf m (peer c))
  | 4 => holds c cc0_scratch3 fullShare (wHalf m (peer c))

instance pay_storable (c : Dev nD) (k : Fin 5) : BI.Storable (upEmb : UEmb _ 𝕄) (pay m c k) := by
  fin_cases k <;> (dsimp only [pay]; infer_instance)

/-- One duty in round 0 of each of the five cells of each device. -/
def exch : Rounds.Schedule (GSem nD τ sig) Unit 𝕄 where
  duties g r := if r = 0 ∧ g.1.2 = .tc ∧ (kindOf g.2).isSome then {()} else ∅
  unitless _ := False
  amount g _ _ := match kindOf g.2 with | some k => amt k | none => 1
  payload g _ _ := match kindOf g.2 with | some k => pay m g.1.1 k | none => iprop(emp)
  amount_pos g _ _ _ := by
    cases h : kindOf g.2 with
    | none => exact Nat.one_pos
    | some k => exact amt_pos k

instance exch_payload_storable (g : GSem nD τ sig) (r : ℕ) (d : Unit) :
    BI.Storable (upEmb : UEmb _ 𝕄) ((exch m).payload g r d) := by
  show BI.Storable upEmb (match kindOf g.2 with | some k => pay m g.1.1 k | none => iprop(emp))
  cases kindOf g.2 <;> infer_instance

section Sched
variable (c : Dev nD) (k : Fin 5)

theorem duties_at : (exch m).duties (kcell (c, k)) 0 = {()} := by
  dsimp only [exch]; rw [kindOf_csem]; exact if_pos ⟨rfl, rfl, rfl⟩
theorem duties_later (g : GSem nD τ sig) : ∀ r, 1 ≤ r → (exch m).duties g r = ∅ :=
  fun r hr => by dsimp only [exch]; rw [if_neg fun h => by omega]
theorem amount_at (d : Unit) : (exch m).amount (kcell (c, k)) 0 d = amt k := by
  dsimp only [exch]; rw [kindOf_csem]
theorem payload_at (d : Unit) : (exch m).payload (kcell (c, k)) 0 d = pay m c k := by
  dsimp only [exch]; rw [kindOf_csem]
theorem expect_at : (exch m).expect (kcell (c, k)) 0 = amt k := by
  unfold Schedule.expect Schedule.amountOf; rw [duties_at, Finset.sum_singleton, amount_at]
/-- The whole of a cell's round: its one payload. -/
theorem rest_at : bigSep ((exch m).duties (kcell (c, k)) 0 \ ∅) (fun d => (exch m).payload (kcell (c, k)) 0 d) = pay m c k := by
  rw [Finset.sdiff_empty, duties_at, bigSep_singleton, payload_at]
theorem duty_at : bigSep ((exch m).duties (kcell (c, k)) 0) (fun d => (exch m).payload (kcell (c, k)) 0 d) = pay m c k := by
  rw [duties_at, bigSep_singleton, payload_at]
theorem mem_duties : () ∈ (exch m).duties (kcell (c, k)) 0 := by rw [duties_at]; exact Finset.mem_singleton_self _

end Sched

/-! ## What each device owes at launch; the levels -/

/-- What device `c` owes once it has signalled: the two copies' credits at its peer. -/
def O₁ (c : Dev nD) : CellTallies nD τ sig Unit :=
  tallyAt (kcell (peer c, 3)) () Nc + tallyAt (kcell (peer c, 4)) () Nw
/-- What it owes at launch: these and the barrier's unit. -/
def O₀ (c : Dev nD) : CellTallies nD τ sig Unit := O₁ c + tallyAt (kcell (peer c, 0)) () 1

def L (g : GSem nD τ sig) : Finset Unit := if g.1.2 = .tc then {()} else ∅
/-- Barrier cells at 1, receive cells at 2, everything else at 0. -/
def lv (g : GSem nD τ sig) (_ : Unit) : ℕ :=
  match kindOf g.2 with | some 0 => 1 | some 3 => 2 | some 4 => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Fin 5) (u : Unit) :
    lv (kcell (c, k)) u = match k with | 0 => 1 | 3 => 2 | 4 => 2 | _ => 0 := by
  unfold lv; rw [kindOf_csem]; fin_cases k <;> rfl

theorem O₁_pos {c : Dev nD} {g : GSem nD τ sig} {u : Unit} (h : 0 < O₁ c g u) :
    g = kcell (peer c, 3) ∨ g = kcell (peer c, 4) := by
  unfold O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = kcell (peer c, 3) ∨ g = kcell (peer c, 4) ∨ g = kcell (peer c, 0) := by
  by_cases h0 : g = kcell (peer c, 0)
  · exact .inr (.inr h0)
  · have h1 : 0 < O₁ c g u := by
      unfold O₀ at h
      rw [Pi.add_apply, Finsupp.add_apply, tallyAt_apply, if_neg (fun h' => h0 h'.1), Nat.add_zero] at h
      exact h
    rcases O₁_pos h1 with h | h
    · exact .inl h
    · exact .inr (.inl h)

/-- A cell at level 0 may be waited on whatever the device still owes. -/
theorem mayWait_low (c : Dev nD) (q : DmaSem sig) (hq : kindOf (.dma q) = none) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl <;> exact Finset.mem_singleton_self _)
      (fun p hp => by rw [Finset.mem_singleton.mp hp]; dsimp only [lv]; rw [hq])
      (fun g u hg => by rcases O₀_pos hg with rfl | rfl | rfl <;> (rw [lv_cell]; decide))
  · rw [MayWait_zero]; iintro -; iempintro

/-- At its barrier a device owes receive cells only, which are above it. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl <;> exact Finset.mem_singleton_self _)
    (fun p hp => by rw [Finset.mem_singleton.mp hp]; exact le_of_eq (lv_cell c 0 ()))
    (fun g u hg => by rcases O₁_pos hg with rfl | rfl <;> (rw [lv_cell]; decide))

end Cert.KernelIdealProof

end
-- ==== Proof.KernelIdealContents.lean ====
/-
What the scratch buffers hold.

The body packs the sixteen heads' queries, keys and values side by side into three scratch buffers, one store per
head and part, and later stores one block of the attention per batch row and head into a fourth. This file names the
lists of those stores, uniformly in the head, and the closed contents they leave.
-/
module

public import proofs.«01_k».proof.Proof.KernelIdealProtocol
public import Idealize.ShloMosaic.Lib.ValueIdxCore

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (m : (ℓ : Loc nD τ sig) → Buf (Elt F) ℓ)

/-! ## Lists of stores and the contents they leave -/

/-- Places none of the stores covers keep what they held. -/
theorem read_writes_miss {κ : Kind} {sp : Space} {s : Shape} {e : EltTy} {Val : EltTy → Type} (v : View sig κ sp s e)
    (f : v.ty.Contents Val) (y : s.Idx) : ∀ L : List (View.Piece Val s e), (∀ p ∈ L, y ∉ p.1.set) →
      v.read Val (v.writes Val f L) y = v.read Val f y
  | [], _ => rfl
  | p :: L, h => by
    rw [View.read_writes_cons_miss v f p L y (h p List.mem_cons_self)]
    exact read_writes_miss v f y L fun p' hp' => h p' (List.mem_cons_of_mem _ hp')

/-- Stores into a whole buffer leave the contents `T` when each store's payload is `T` on its rectangle and the buffer
    held `T` wherever no store goes. -/
theorem writes_eq {b : Ref sig .tc} (f T : b.ty.Contents (Elt F))
    (L : List (View.Piece (Elt F) b.ty.shape b.ty.elt))
    (hL : ∀ p ∈ L, ∀ x : p.1.shape.Idx, p.2 x = T (p.1.emb x))
    (hf : ∀ y, (∃ p ∈ L, y ∈ p.1.set) ∨ f y = T y) :
    (View.whole b).writes (Elt F) f L = T := by
  rw [← View.read_whole (Val := Elt F) b ((View.whole b).writes (Elt F) f L)]
  funext y
  by_cases hy : ∃ p ∈ L, y ∈ p.1.set
  · exact View.read_writes_apply_of_pieces (View.whole b) f T L hL y hy
  · rw [read_writes_miss (View.whole b) f y L fun p hp hm => hy ⟨p, hp, hm⟩, View.read_whole]
    exact (hf y).resolve_left hy

/-- The sixteen heads, the last first (a list of stores has its last store first). -/
def headsRev : List (Fin 16) := [15, 14, 13, 12, 11, 10, 9, 8, 7, 6, 5, 4, 3, 2, 1, 0]

theorem mem_headsRev (h : Fin 16) : h ∈ headsRev := by revert h; decide

/-- Two stores per head, `P`'s first. -/
abbrev perHead {s : Shape} {e : EltTy} (P Q : Fin 16 → View.Piece (Elt F) s e) : List (View.Piece (Elt F) s e) :=
  headsRev.flatMap fun h => [Q h, P h]

theorem mem_perHead {s : Shape} {e : EltTy} {P Q : Fin 16 → View.Piece (Elt F) s e} {p : View.Piece (Elt F) s e}
    (hp : p ∈ perHead P Q) : ∃ h, p = Q h ∨ p = P h := by
  obtain ⟨h, -, hm⟩ := List.mem_flatMap.mp hp
  rcases List.mem_cons.mp hm with rfl | hm
  · exact ⟨h, .inl rfl⟩
  · exact ⟨h, .inr (List.mem_singleton.mp hm)⟩

theorem fst_mem_perHead {s : Shape} {e : EltTy} (P Q : Fin 16 → View.Piece (Elt F) s e) (h : Fin 16) : P h ∈ perHead P Q :=
  List.mem_flatMap.mpr ⟨h, mem_headsRev h, List.mem_cons_of_mem _ List.mem_cons_self⟩

theorem snd_mem_perHead {s : Shape} {e : EltTy} (P Q : Fin 16 → View.Piece (Elt F) s e) (h : Fin 16) : Q h ∈ perHead P Q :=
  List.mem_flatMap.mpr ⟨h, mem_headsRev h, List.mem_cons_self⟩

/-- A place in a two-dimensional buffer lies in a unit-stride rectangle of it when both its coordinates do. -/
theorem mem_unit2 {n k p q : ℕ} {o₀ o₁ : ℕ} {hb : ∀ a, (![o₀, o₁] : Fin 2 → ℕ) a + (⟨2, ![p, q]⟩ : Shape).size a ≤ (⟨2, ![n, k]⟩ : Shape).size a}
    (y : (⟨2, ![n, k]⟩ : Shape).Idx) (h0 : o₀ ≤ (y 0).val ∧ (y 0).val < o₀ + p) (h1 : o₁ ≤ (y 1).val ∧ (y 1).val < o₁ + q) :
    y ∈ (Rect.unit (s := ⟨2, ![n, k]⟩) ![o₀, o₁] (⟨2, ![p, q]⟩ : Shape).size hb).set := by
  rw [Rect.mem_set_unit]
  intro a
  match a with
  | ⟨0, _⟩ => exact h0
  | ⟨1, _⟩ => exact h1

/-- The bounds of a rectangle of a two-dimensional buffer, coordinate by coordinate. -/
theorem inb2 {n k p q o₀ o₁ : ℕ} (h0 : o₀ + p ≤ n) (h1 : o₁ + q ≤ k) :
    ∀ a, (![o₀, o₁] : Fin 2 → ℕ) a + (⟨2, ![p, q]⟩ : Shape).size a ≤ (⟨2, ![n, k]⟩ : Shape).size a := fun a =>
  match a with
  | ⟨0, _⟩ => h0
  | ⟨1, _⟩ => h1

/-- The bounds of a slice of a two-dimensional array. -/
theorem slices2 {n k p q o₀ o₁ : ℕ} (h0 : o₀ + p ≤ n) (h1 : o₁ + q ≤ k) :
    (⟨2, ![n, k]⟩ : Shape).Slices ![o₀, o₁] ⟨2, ![p, q]⟩ := ⟨rfl, fun a =>
  match a with
  | ⟨0, _⟩ => h0
  | ⟨1, _⟩ => h1⟩

/-! ## Queries and keys: per head 64 columns of one array and 32 of another -/

/-- The packed array of 64 + 32 columns per head: column `c` belongs to head `c / 96`, and within a head the 64 columns
    come first. -/
def pack (a : Fin 16 → FVec F S512x64 .bf16) (b : Fin 16 → FVec F S512x32 .bf16) : FVec F S512x1536 .bf16 := fun y =>
  if h : (y 1).val % 96 < 64 then
    a ⟨(y 1).val / 96, by have : (y 1).val < 1536 := (y 1).isLt; omega⟩ (ix2 (y 0) ⟨(y 1).val % 96, h⟩)
  else b ⟨(y 1).val / 96, by have : (y 1).val < 1536 := (y 1).isLt; omega⟩ (ix2 (y 0) ⟨(y 1).val % 96 - 64, by omega⟩)

/-- The packed array in a head's first 64 columns. -/
theorem pack_left (a : Fin 16 → FVec F S512x64 .bf16) (b : Fin 16 → FVec F S512x32 .bf16) (y : S512x1536.Idx) (h : Fin 16)
    (r : Fin 512) (j : Fin 64) (h0 : (y 0).val = r.val) (h1 : (y 1).val = 96 * h.val + j.val) : pack a b y = a h (ix2 r j) := by
  have e : (y 1).val % 96 = j.val := by omega
  unfold pack
  rw [dif_pos (by omega)]
  exact congrArg₂ (fun (k : Fin 16) (i : S512x64.Idx) => a k i) (Fin.ext (by show (y 1).val / 96 = h.val; omega)) (congrArg₂ ix2 (Fin.ext h0) (Fin.ext e))

/-- The packed array in a head's last 32 columns. -/
theorem pack_right (a : Fin 16 → FVec F S512x64 .bf16) (b : Fin 16 → FVec F S512x32 .bf16) (y : S512x1536.Idx) (h : Fin 16)
    (r : Fin 512) (j : Fin 32) (h0 : (y 0).val = r.val) (h1 : (y 1).val = 96 * h.val + 64 + j.val) : pack a b y = b h (ix2 r j) := by
  have e : (y 1).val % 96 = 64 + j.val := by omega
  unfold pack
  rw [dif_neg (by omega)]
  exact congrArg₂ (fun (k : Fin 16) (i : S512x32.Idx) => b k i) (Fin.ext (by show (y 1).val / 96 = h.val; omega)) (congrArg₂ ix2 (Fin.ext h0) (Fin.ext (by show (y 1).val % 96 - 64 = j.val; omega)))

/-- The store of head `h`'s 64 columns. -/
def packA (w : Fin 16 → FVec F S512x64 .bf16) (h : Fin 16) : View.Piece (Elt F) S512x1536 .bf16 :=
  ⟨Rect.unit ![0, 96 * h.val] S512x64.size (inb2 (by omega) (by omega)), w h⟩
/-- The store of head `h`'s 32 columns. -/
def packB (w : Fin 16 → FVec F S512x32 .bf16) (h : Fin 16) : View.Piece (Elt F) S512x1536 .bf16 :=
  ⟨Rect.unit ![0, 96 * h.val + 64] S512x32.size (inb2 (by omega) (by omega)), w h⟩

/-- Each of the stores stores the packed array's elements. -/
theorem pack_pieces (a : Fin 16 → FVec F S512x64 .bf16) (b : Fin 16 → FVec F S512x32 .bf16) :
    ∀ p ∈ perHead (packA a) (packB b), ∀ x : p.1.shape.Idx, p.2 x = pack a b (p.1.emb x) := by
  intro p hp
  obtain ⟨h, rfl | rfl⟩ := mem_perHead hp
  · intro (x : S512x32.Idx)
    refine .trans (congrArg (b h) (eq_ix2 x)) (pack_right a b _ h (x 0) (x 1) ?_ ?_).symm
    · show 0 + 1 * (x 0).val = _; omega
    · show (96 * h.val + 64) + 1 * (x 1).val = _; omega
  · intro (x : S512x64.Idx)
    refine .trans (congrArg (a h) (eq_ix2 x)) (pack_left a b _ h (x 0) (x 1) ?_ ?_).symm
    · show 0 + 1 * (x 0).val = _; omega
    · show 96 * h.val + 1 * (x 1).val = _; omega

/-- The stores cover the packed array. -/
theorem pack_cover (a : Fin 16 → FVec F S512x64 .bf16) (b : Fin 16 → FVec F S512x32 .bf16) (y : S512x1536.Idx) :
    ∃ p ∈ perHead (packA a) (packB b), y ∈ p.1.set := by
  have h0 : (y 0).val < 512 := (y 0).isLt
  have h1 : (y 1).val < 1536 := (y 1).isLt
  let h : Fin 16 := ⟨(y 1).val / 96, by omega⟩
  by_cases hc : (y 1).val % 96 < 64
  · refine ⟨_, fst_mem_perHead _ _ h, mem_unit2 (hb := inb2 (by omega) (by omega)) y ⟨by omega, by omega⟩ ⟨?_, ?_⟩⟩
    · show 96 * ((y 1).val / 96) ≤ _; omega
    · show _ < 96 * ((y 1).val / 96) + 64; omega
  · refine ⟨_, snd_mem_perHead _ _ h, mem_unit2 (hb := inb2 (by omega) (by omega)) y ⟨by omega, by omega⟩ ⟨?_, ?_⟩⟩
    · show 96 * ((y 1).val / 96) + 64 ≤ _; omega
    · show _ < 96 * ((y 1).val / 96) + 64 + 32; omega

/-- The stores of all heads into the queries' buffer leave the packed array. -/
theorem writes_qq (f : (cc0_scratch4 : Ref sig .tc).ty.Contents (Elt F)) (a : Fin 16 → FVec F S512x64 .bf16) (b : Fin 16 → FVec F S512x32 .bf16) :
    (Memref.whole cc0_scratch4 : Memref sig .tc .vmem S512x1536 .bf16).view.writes (Elt F) f (perHead (packA a) (packB b)) = pack a b :=
  writes_eq (b := cc0_scratch4) f (pack a b) _ (pack_pieces a b) fun y => .inl (pack_cover a b y)

/-- The stores of all heads into the keys' buffer leave the packed array. -/
theorem writes_kk (f : (cc0_scratch5 : Ref sig .tc).ty.Contents (Elt F)) (a : Fin 16 → FVec F S512x64 .bf16) (b : Fin 16 → FVec F S512x32 .bf16) :
    (Memref.whole cc0_scratch5 : Memref sig .tc .vmem S512x1536 .bf16).view.writes (Elt F) f (perHead (packA a) (packB b)) = pack a b :=
  writes_eq (b := cc0_scratch5) f (pack a b) _ (pack_pieces a b) fun y => .inl (pack_cover a b y)

/-! ## Values: per head 64 columns and a column of ones, 63 columns left alone -/

/-- The values' buffer over prior contents `f`. -/
def packV (f : FVec F S512x2048 .bf16) (a : Fin 16 → FVec F S512x64 .bf16) (u : Fin 16 → FVec F S512x1 .bf16) : FVec F S512x2048 .bf16 := fun y =>
  if h : (y 1).val % 128 < 64 then
    a ⟨(y 1).val / 128, by have : (y 1).val < 2048 := (y 1).isLt; omega⟩ (ix2 (y 0) ⟨(y 1).val % 128, h⟩)
  else if (y 1).val % 128 = 64 then u ⟨(y 1).val / 128, by have : (y 1).val < 2048 := (y 1).isLt; omega⟩ (ix2 (y 0) 0)
  else f y

/-- The values' buffer in a head's 64 columns. -/
theorem packV_left (f : FVec F S512x2048 .bf16) (a : Fin 16 → FVec F S512x64 .bf16) (u : Fin 16 → FVec F S512x1 .bf16) (y : S512x2048.Idx) (h : Fin 16)
    (r : Fin 512) (j : Fin 64) (h0 : (y 0).val = r.val) (h1 : (y 1).val = 128 * h.val + j.val) : packV f a u y = a h (ix2 r j) := by
  have e : (y 1).val % 128 = j.val := by omega
  unfold packV
  rw [dif_pos (by omega)]
  exact congrArg₂ (fun (k : Fin 16) (i : S512x64.Idx) => a k i) (Fin.ext (by show (y 1).val / 128 = h.val; omega)) (congrArg₂ ix2 (Fin.ext h0) (Fin.ext e))

/-- The values' buffer in a head's column of ones. -/
theorem packV_one (f : FVec F S512x2048 .bf16) (a : Fin 16 → FVec F S512x64 .bf16) (u : Fin 16 → FVec F S512x1 .bf16) (y : S512x2048.Idx) (h : Fin 16)
    (r : Fin 512) (h0 : (y 0).val = r.val) (h1 : (y 1).val = 128 * h.val + 64) : packV f a u y = u h (ix2 r 0) := by
  unfold packV
  rw [dif_neg (by omega), if_pos (by omega)]
  exact congrArg₂ (fun (k : Fin 16) (i : S512x1.Idx) => u k i) (Fin.ext (by show (y 1).val / 128 = h.val; omega)) (congrArg₂ ix2 (Fin.ext h0) rfl)

/-- The store of head `h`'s values. -/
def packVA (w : Fin 16 → FVec F S512x64 .bf16) (h : Fin 16) : View.Piece (Elt F) S512x2048 .bf16 :=
  ⟨Rect.unit ![0, 128 * h.val] S512x64.size (inb2 (by omega) (by omega)), w h⟩
/-- The store of head `h`'s column of ones. -/
def packVB (w : Fin 16 → FVec F S512x1 .bf16) (h : Fin 16) : View.Piece (Elt F) S512x2048 .bf16 :=
  ⟨Rect.unit ![0, 128 * h.val + 64] S512x1.size (inb2 (by omega) (by omega)), w h⟩

/-- The stores of all heads into the values' buffer. -/
theorem writes_vv (f : (cc0_scratch6 : Ref sig .tc).ty.Contents (Elt F)) (a : Fin 16 → FVec F S512x64 .bf16) (u : Fin 16 → FVec F S512x1 .bf16) :
    (Memref.whole cc0_scratch6 : Memref sig .tc .vmem S512x2048 .bf16).view.writes (Elt F) f (perHead (packVA a) (packVB u)) = packV f a u := by
  refine writes_eq (b := cc0_scratch6) f (packV f a u) _ ?_ ?_
  · intro p hp
    obtain ⟨h, rfl | rfl⟩ := mem_perHead hp
    · intro (x : S512x1.Idx)
      have hx : x = ix2 (x 0) 0 := by
        refine (eq_ix2 x).trans (congrArg (ix2 (x 0)) ?_)
        exact Fin.ext (by have : (x 1).val < 1 := (x 1).isLt; show (x 1).val = 0; omega)
      refine .trans (congrArg (u h) hx) (packV_one f a u _ h (x 0) ?_ ?_).symm
      · show 0 + 1 * (x 0).val = _; omega
      · show (128 * h.val + 64) + 1 * (x 1).val = _
        have : (x 1).val < 1 := (x 1).isLt
        omega
    · intro (x : S512x64.Idx)
      refine .trans (congrArg (a h) (eq_ix2 x)) (packV_left f a u _ h (x 0) (x 1) ?_ ?_).symm
      · show 0 + 1 * (x 0).val = _; omega
      · show 128 * h.val + 1 * (x 1).val = _; omega
  · intro (y : S512x2048.Idx)
    have h0 : (y 0).val < 512 := (y 0).isLt
    have h1 : (y 1).val < 2048 := (y 1).isLt
    let h : Fin 16 := ⟨(y 1).val / 128, by omega⟩
    by_cases hc : (y 1).val % 128 < 64
    · refine .inl ⟨_, fst_mem_perHead _ _ h, mem_unit2 (hb := inb2 (by omega) (by omega)) y ⟨by omega, by omega⟩ ⟨?_, ?_⟩⟩
      · show 128 * ((y 1).val / 128) ≤ _; omega
      · show _ < 128 * ((y 1).val / 128) + 64; omega
    · by_cases ho : (y 1).val % 128 = 64
      · refine .inl ⟨_, snd_mem_perHead _ _ h, mem_unit2 (hb := inb2 (by omega) (by omega)) y ⟨by omega, by omega⟩ ⟨?_, ?_⟩⟩
        · show 128 * ((y 1).val / 128) + 64 ≤ _; omega
        · show _ < 128 * ((y 1).val / 128) + 64 + 1; omega
      · refine .inr ?_
        show f y = packV f a u y
        unfold packV
        rw [dif_neg hc, if_neg ho]

/-! ## The attention: one block per batch row and head -/

/-- The rectangle of batch row `b` and head `h` in the packed queries and keys. -/
abbrev rectQK (b : Fin 2) (h : Fin 16) : Rect S512x1536 := Rect.unit ![256 * b.val, 96 * h.val] S256x96.size (inb2 (by omega) (by omega))
/-- The rectangle of batch row `b` and head `h` in the values, the column of ones included. -/
abbrev rectV (b : Fin 2) (h : Fin 16) : Rect S512x2048 := Rect.unit ![256 * b.val, 128 * h.val] S256x65.size (inb2 (by omega) (by omega))
/-- The rectangle of batch row `b` and head `h` in the attention's result. -/
abbrev rectO (b : Fin 2) (h : Fin 16) : Rect S512x1024 := Rect.unit ![256 * b.val, 64 * h.val] S256x64.size (inb2 (by omega) (by omega))

/-- The block of the attention of batch row `b` and head `h`. -/
def attnBlk (q k : FVec F S512x1536 .bf16) (v : FVec F S512x2048 .bf16) (b : Fin 2) (h : Fin 16) : FVec F S256x64 .bf16 :=
  k0_pay112 ((Memref.whole cc0_scratch4 : Memref sig .tc .vmem S512x1536 .bf16).view.readAt (Elt F) (rectQK b h).toLoadRect q)
    ((Memref.whole cc0_scratch5 : Memref sig .tc .vmem S512x1536 .bf16).view.readAt (Elt F) (rectQK b h).toLoadRect k)
    ((Memref.whole cc0_scratch6 : Memref sig .tc .vmem S512x2048 .bf16).view.readAt (Elt F) (rectV b h).toLoadRect v)

/-- The stores of the blocks, the last first. -/
abbrev attnStores (w : Fin 2 → Fin 16 → FVec F S256x64 .bf16) : List (View.Piece (Elt F) S512x1024 .bf16) :=
  ([1, 0] : List (Fin 2)).flatMap fun b => headsRev.map fun h => ⟨rectO b h, w b h⟩

/-- The attention's result, its blocks side by side. -/
def attnAll (w : Fin 2 → Fin 16 → FVec F S256x64 .bf16) : FVec F S512x1024 .bf16 := fun y =>
  w ⟨(y 0).val / 256, by have : (y 0).val < 512 := (y 0).isLt; omega⟩ ⟨(y 1).val / 64, by have : (y 1).val < 1024 := (y 1).isLt; omega⟩
    (ix2 ⟨(y 0).val % 256, Nat.mod_lt _ (by omega)⟩ ⟨(y 1).val % 64, Nat.mod_lt _ (by omega)⟩)

theorem attnAll_eq (w : Fin 2 → Fin 16 → FVec F S256x64 .bf16) (y : S512x1024.Idx) (b : Fin 2) (h : Fin 16) (r : Fin 256) (j : Fin 64)
    (h0 : (y 0).val = 256 * b.val + r.val) (h1 : (y 1).val = 64 * h.val + j.val) : attnAll w y = w b h (ix2 r j) := by
  have e0 : (⟨(y 0).val / 256, by have : (y 0).val < 512 := (y 0).isLt; omega⟩ : Fin 2) = b := Fin.ext (by show (y 0).val / 256 = _; omega)
  have e1 : (⟨(y 1).val / 64, by have : (y 1).val < 1024 := (y 1).isLt; omega⟩ : Fin 16) = h := Fin.ext (by show (y 1).val / 64 = _; omega)
  have e2 : (⟨(y 0).val % 256, Nat.mod_lt _ (by omega)⟩ : Fin 256) = r := Fin.ext (by show (y 0).val % 256 = _; omega)
  have e3 : (⟨(y 1).val % 64, Nat.mod_lt _ (by omega)⟩ : Fin 64) = j := Fin.ext (by show (y 1).val % 64 = _; omega)
  unfold attnAll
  rw [e0, e1, e2, e3]

/-- The blocks' stores leave the attention's result. -/
theorem writes_attn (f : (cc0_scratch7 : Ref sig .tc).ty.Contents (Elt F)) (w : Fin 2 → Fin 16 → FVec F S256x64 .bf16) :
    (Memref.whole cc0_scratch7 : Memref sig .tc .vmem S512x1024 .bf16).view.writes (Elt F) f (attnStores w) = attnAll w := by
  refine writes_eq (b := cc0_scratch7) f (attnAll w) _ ?_ ?_
  · intro p hp
    obtain ⟨b, -, hp⟩ := List.mem_flatMap.mp hp
    obtain ⟨h, -, rfl⟩ := List.mem_map.mp hp
    intro (x : S256x64.Idx)
    refine .trans (congrArg (w b h) (eq_ix2 x)) (attnAll_eq w _ b h (x 0) (x 1) ?_ ?_).symm
    · show 256 * b.val + 1 * (x 0).val = _; omega
    · show 64 * h.val + 1 * (x 1).val = _; omega
  · intro (y : S512x1024.Idx)
    have h0 : (y 0).val < 512 := (y 0).isLt
    have h1 : (y 1).val < 1024 := (y 1).isLt
    refine .inl ⟨⟨rectO ⟨(y 0).val / 256, by omega⟩ ⟨(y 1).val / 64, by omega⟩, w ⟨(y 0).val / 256, by omega⟩ ⟨(y 1).val / 64, by omega⟩⟩,
      List.mem_flatMap.mpr ⟨⟨(y 0).val / 256, by omega⟩, ?_, List.mem_map.mpr ⟨_, mem_headsRev _, rfl⟩⟩,
      mem_unit2 (hb := inb2 (by omega) (by omega)) y ⟨?_, ?_⟩ ⟨?_, ?_⟩⟩
    · have : ∀ b : Fin 2, b ∈ ([1, 0] : List (Fin 2)) := by decide
      exact this _
    · show 256 * ((y 0).val / 256) ≤ _; omega
    · show _ < 256 * ((y 0).val / 256) + 256; omega
    · show 64 * ((y 1).val / 64) ≤ _; omega
    · show _ < 64 * ((y 1).val / 64) + 64; omega

/-! ## What the kernel's arrays are -/

/-- Columns `[o, o + k)` of an array, as the kernel stores them. -/
abbrev cols64 {n : ℕ} (x : FVec F ⟨2, ![512, n]⟩ .bf16) (o : ℕ) (ho : o + 64 ≤ n) : FVec F S512x64 .bf16 :=
  shapeCast S512x64 (extractStridedSlice S512x64 ![0, o] x (slices2 (by omega) ho)) shapeCasts_S512x64_S512x64
abbrev cols32 {n : ℕ} (x : FVec F ⟨2, ![512, n]⟩ .bf16) (o : ℕ) (ho : o + 32 ≤ n) : FVec F S512x32 .bf16 :=
  shapeCast S512x32 (extractStridedSlice S512x32 ![0, o] x (slices2 (by omega) ho)) shapeCasts_S512x32_S512x32
/-- Sixty-four columns of a wide array, rounded, as the kernel stores them. -/
abbrev cols64r {n : ℕ} (x : FVec F ⟨2, ![512, n]⟩ .f32) (o : ℕ) (ho : o + 64 ≤ n) : FVec F S512x64 .bf16 :=
  shapeCast S512x64 (truncf .bf16 (extractStridedSlice S512x64 ![0, o] x (slices2 (by omega) ho)) bitsLt_bf16_f32) shapeCasts_S512x64_S512x64

/-- The scaled queries of all heads, content part. -/
def qAll (c : Dev nD) : FVec F S512x1024 .bf16 := k0_pay5 (x0 m c) (x4 m c)
/-- The scaled queries of all heads, positional part. -/
def qrAll (c : Dev nD) : FVec F S512x512 .bf16 := k0_pay6 (k0_pay3 (x0 m c)) (x5 m c)
/-- The positional keys, shared by the heads. -/
def krAll (c : Dev nD) : FVec F S512x32 .bf16 := k0_pay7 (k0_pay3 (x0 m c)) (x6 m c)
/-- The keys and values of all heads, from the two halves of the latent and of the up-projections. -/
def kvAll (c : Dev nD) : FVec F S512x2048 .f32 := k0_pay43 (cHalf m c) (cHalf m (peer c)) (wHalf m c) (wHalf m (peer c))

/-- The packed queries. -/
def qqAll (c : Dev nD) : FVec F S512x1536 .bf16 :=
  pack (fun h => cols64 (qAll m c) (64 * h.val) (by omega)) (fun h => cols32 (qrAll m c) (32 * h.val) (by omega))
/-- The packed keys. -/
def kkAll (c : Dev nD) : FVec F S512x1536 .bf16 :=
  pack (fun h => cols64r (kvAll m c) (64 * h.val) (by omega)) (fun _ => shapeCast S512x32 (krAll m c) shapeCasts_S512x32_S512x32)
/-- The values over prior contents `f`. -/
def vvAll (c : Dev nD) (f : FVec F S512x2048 .bf16) : FVec F S512x2048 .bf16 :=
  packV f (fun h => cols64r (kvAll m c) (1024 + 64 * h.val) (by omega)) (fun _ => shapeCast S512x1 k0_pay44 shapeCasts_S512x1_S512x1)

/-- The stores into the keys' buffer, as a run lists them. -/
theorem kk_stores (c : Dev nD) (f : (cc0_scratch5 : Ref sig .tc).ty.Contents (Elt F)) (L : List (View.Piece (Elt F) S512x1536 .bf16))
    (h : L = perHead (packA fun h => cols64r (kvAll m c) (64 * h.val) (by omega)) (packB fun _ => shapeCast S512x32 (krAll m c) shapeCasts_S512x32_S512x32)) :
    (Memref.whole cc0_scratch5 : Memref sig .tc .vmem S512x1536 .bf16).view.writes (Elt F) f L = kkAll m c := by
  subst h; exact writes_kk f _ _

/-- The stores into the values' buffer, as a run lists them. -/
theorem vv_stores (c : Dev nD) (f : (cc0_scratch6 : Ref sig .tc).ty.Contents (Elt F)) (L : List (View.Piece (Elt F) S512x2048 .bf16))
    (h : L = perHead (packVA fun h => cols64r (kvAll m c) (1024 + 64 * h.val) (by omega)) (packVB fun _ => shapeCast S512x1 k0_pay44 shapeCasts_S512x1_S512x1)) :
    (Memref.whole cc0_scratch6 : Memref sig .tc .vmem S512x2048 .bf16).view.writes (Elt F) f L = vvAll m c f := by
  subst h; exact writes_vv f _ _

/-- A block of the values read back does not depend on what the buffer held before. -/
theorem readV_indep (c : Dev nD) (f g : FVec F S512x2048 .bf16) (b : Fin 2) (h : Fin 16) :
    (Memref.whole cc0_scratch6 : Memref sig .tc .vmem S512x2048 .bf16).view.readAt (Elt F) (rectV b h).toLoadRect (vvAll m c f)
      = (Memref.whole cc0_scratch6 : Memref sig .tc .vmem S512x2048 .bf16).view.readAt (Elt F) (rectV b h).toLoadRect (vvAll m c g) := by
  funext (x : S256x65.Idx)
  show vvAll m c f ((rectV b h).emb x) = vvAll m c g ((rectV b h).emb x)
  have hx0 : (x 0).val < 256 := (x 0).isLt
  have hx1 : (x 1).val < 65 := (x 1).isLt
  have e0 : (((rectV b h).emb x) 0).val = 256 * b.val + (x 0).val := by show 256 * b.val + 1 * (x 0).val = _; omega
  have e1 : (((rectV b h).emb x) 1).val = 128 * h.val + (x 1).val := by show 128 * h.val + 1 * (x 1).val = _; omega
  unfold vvAll
  by_cases hc : (x 1).val < 64
  · rw [packV_left f _ _ _ h ⟨256 * b.val + (x 0).val, by omega⟩ ⟨(x 1).val, hc⟩ e0 e1,
      packV_left g _ _ _ h ⟨256 * b.val + (x 0).val, by omega⟩ ⟨(x 1).val, hc⟩ e0 e1]
  · rw [packV_one f _ _ _ h ⟨256 * b.val + (x 0).val, by omega⟩ e0 (by omega),
      packV_one g _ _ _ h ⟨256 * b.val + (x 0).val, by omega⟩ e0 (by omega)]

/-- Some contents of the values' buffer. -/
def vv₀ : FVec F S512x2048 .bf16 := (Memref.whole cc0_scratch6 : Memref sig .tc .vmem S512x2048 .bf16).view.junk (Val := Elt F)

/-- The attention of device `c`. -/
def attn (c : Dev nD) : FVec F S512x1024 .bf16 := attnAll (attnBlk (qqAll m c) (kkAll m c) (vvAll m c vv₀))

theorem attnBlk_indep (c : Dev nD) (f : FVec F S512x2048 .bf16) :
    attnBlk (qqAll m c) (kkAll m c) (vvAll m c f) = attnBlk (qqAll m c) (kkAll m c) (vvAll m c vv₀) := by
  funext b h
  unfold attnBlk
  rw [readV_indep m c f vv₀ b h]

/-- The stores into the attention's buffer, as a run lists them. -/
theorem attn_stores (c : Dev nD) (f : (cc0_scratch7 : Ref sig .tc).ty.Contents (Elt F)) (g : FVec F S512x2048 .bf16) (L : List (View.Piece (Elt F) S512x1024 .bf16))
    (h : L = attnStores (attnBlk (qqAll m c) (kkAll m c) (vvAll m c g))) :
    (Memref.whole cc0_scratch7 : Memref sig .tc .vmem S512x1024 .bf16).view.writes (Elt F) f L = attn m c := by
  subst h; rw [writes_attn, attnBlk_indep]; rfl

/-- What the kernel leaves in its result on device `c`. -/
def outAll (c : Dev nD) : FVec F S2x256x1024 .f32 := k0_pay160 (attn m c) (x7 m c)

end Cert.KernelIdealProof

end
-- ==== Proof.KernelIdealBody.lean ====
module

public import proofs.«01_k».proof.Proof.KernelIdealContents

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

abbrev 𝒱₀ : Variants := Variants.none

/-- The invariants of the cells device `c` touches: its own five, and its peer's barrier and receive cells. -/
def invs (K : Dev nD × Fin 5 → ℕ) (c : Dev nD) : sProp 𝕄 :=
  iprop((cellInv EX (exch m) (K (c, 0)) (kcell (c, 0)) ∗ cellInv EX (exch m) (K (c, 1)) (kcell (c, 1))
      ∗ cellInv EX (exch m) (K (c, 2)) (kcell (c, 2)) ∗ cellInv EX (exch m) (K (c, 3)) (kcell (c, 3))
      ∗ cellInv EX (exch m) (K (c, 4)) (kcell (c, 4)))
    ∗ cellInv EX (exch m) (K (peer c, 0)) (kcell (peer c, 0)) ∗ cellInv EX (exch m) (K (peer c, 3)) (kcell (peer c, 3))
    ∗ cellInv EX (exch m) (K (peer c, 4)) (kcell (peer c, 4)))

instance invs_persistent (K : Dev nD × Fin 5 → ℕ) (c : Dev nD) : BI.Persistent (invs m K c) := by unfold invs; infer_instance

/-- The marks that the cells device `c` pays are in round 0. -/
def marks (c : Dev nD) : sProp 𝕄 :=
  iprop(reached EX (kcell (peer c, 0)) 0 ∗ reached EX (kcell (peer c, 3)) 0 ∗ reached EX (kcell (peer c, 4)) 0
    ∗ reached EX (kcell (c, 1)) 0 ∗ reached EX (kcell (c, 2)) 0)

instance marks_persistent (c : Dev nD) : BI.Persistent (marks (F := F) c) := by unfold marks; infer_instance

/-- The tokens of the duties device `c` pays: its peer's barrier and receive cells', its own send cells'. -/
def payToks (c : Dev nD) : sProp 𝕄 :=
  iprop(dutyTok EX (kcell (peer c, 0)) 0 () ∗ dutyTok EX (kcell (peer c, 3)) 0 () ∗ dutyTok EX (kcell (peer c, 4)) 0 ()
    ∗ dutyTok EX (kcell (c, 1)) 0 () ∗ dutyTok EX (kcell (c, 2)) 0 ())

/-- Its positions at its own five cells, all in round `r`. -/
def posAt (c : Dev nD) (r : ℕ) : sProp 𝕄 :=
  iprop(atPos EX (kcell (c, 0)) r ∅ 0 ∗ atPos EX (kcell (c, 1)) r ∅ 0 ∗ atPos EX (kcell (c, 2)) r ∅ 0
    ∗ atPos EX (kcell (c, 3)) r ∅ 0 ∗ atPos EX (kcell (c, 4)) r ∅ 0)

/-- The credit device `c` waits with at its barrier and its receive cells. -/
def creds (c : Dev nD) : sProp 𝕄 :=
  iprop(cred (tallyAt (kcell (c, 0)) () 1) ∗ cred (tallyAt (kcell (c, 3)) () Nc) ∗ cred (tallyAt (kcell (c, 4)) () Nw))

/-- The eight input windows at what they hold. -/
def inputs (c : Dev nD) : sProp 𝕄 :=
  iprop(holds c cc0_stg0_0 fullShare (x0 m c) ∗ holds c cc0_stg1_0 fullShare (x1 m c)
    ∗ holds c cc0_stg2_0 fullShare (x2 m c) ∗ holds c cc0_stg3_0 fullShare (x3 m c)
    ∗ holds c cc0_stg4_0 fullShare (x4 m c) ∗ holds c cc0_stg5_0 fullShare (x5 m c)
    ∗ holds c cc0_stg6_0 fullShare (x6 m c) ∗ holds c cc0_stg7_0 fullShare (x7 m c))

theorem hz2 : (![0, 0] : Fin 2 → Nat) = fun _ => 0 := funext fun a => by fin_cases a <;> rfl
theorem hz3 : (![0, 0, 0] : Fin 3 → Nat) = fun _ => 0 := funext fun a => by fin_cases a <;> rfl

/-! A load of a whole buffer reads its contents. -/

theorem ld0 (f : (cc0_stg0_0 : Ref sig .tc).ty.Contents (Elt F)) (h : ∀ a, ![0, 0, 0] a + S2x256x1024.size a ≤ S2x256x1024.size a) :
    View.readAt (Elt F) (Memref.whole cc0_stg0_0 : Memref sig .tc .vmem S2x256x1024 .bf16).view (Rect.unit ![0, 0, 0] S2x256x1024.size h).toLoadRect f = f :=
  Memref.readAt_unit_zero (Elt F) cc0_stg0_0 hz3 h f
theorem ld1 (f : (cc0_stg1_0 : Ref sig .tc).ty.Contents (Elt F)) (h : ∀ a, ![0, 0] a + S1024x64.size a ≤ S1024x64.size a) :
    View.readAt (Elt F) (Memref.whole cc0_stg1_0 : Memref sig .tc .vmem S1024x64 .bf16).view (Rect.unit ![0, 0] S1024x64.size h).toLoadRect f = f :=
  Memref.readAt_unit_zero (Elt F) cc0_stg1_0 hz2 h f
theorem ld2 (f : (cc0_stg2_0 : Ref sig .tc).ty.Contents (Elt F)) (h : ∀ a, ![0, 0] a + S64x1024.size a ≤ S64x1024.size a) :
    View.readAt (Elt F) (Memref.whole cc0_stg2_0 : Memref sig .tc .vmem S64x1024 .bf16).view (Rect.unit ![0, 0] S64x1024.size h).toLoadRect f = f :=
  Memref.readAt_unit_zero (Elt F) cc0_stg2_0 hz2 h f
theorem ld3 (f : (cc0_stg3_0 : Ref sig .tc).ty.Contents (Elt F)) (h : ∀ a, ![0, 0] a + S64x1024.size a ≤ S64x1024.size a) :
    View.readAt (Elt F) (Memref.whole cc0_stg3_0 : Memref sig .tc .vmem S64x1024 .bf16).view (Rect.unit ![0, 0] S64x1024.size h).toLoadRect f = f :=
  Memref.readAt_unit_zero (Elt F) cc0_stg3_0 hz2 h f
theorem ld4 (f : (cc0_stg4_0 : Ref sig .tc).ty.Contents (Elt F)) (h : ∀ a, ![0, 0] a + S1024x1024.size a ≤ S1024x1024.size a) :
    View.readAt (Elt F) (Memref.whole cc0_stg4_0 : Memref sig .tc .vmem S1024x1024 .bf16).view (Rect.unit ![0, 0] S1024x1024.size h).toLoadRect f = f :=
  Memref.readAt_unit_zero (Elt F) cc0_stg4_0 hz2 h f
theorem ld5 (f : (cc0_stg5_0 : Ref sig .tc).ty.Contents (Elt F)) (h : ∀ a, ![0, 0] a + S1024x512.size a ≤ S1024x512.size a) :
    View.readAt (Elt F) (Memref.whole cc0_stg5_0 : Memref sig .tc .vmem S1024x512 .bf16).view (Rect.unit ![0, 0] S1024x512.size h).toLoadRect f = f :=
  Memref.readAt_unit_zero (Elt F) cc0_stg5_0 hz2 h f
theorem ld6 (f : (cc0_stg6_0 : Ref sig .tc).ty.Contents (Elt F)) (h : ∀ a, ![0, 0] a + S1024x32.size a ≤ S1024x32.size a) :
    View.readAt (Elt F) (Memref.whole cc0_stg6_0 : Memref sig .tc .vmem S1024x32 .bf16).view (Rect.unit ![0, 0] S1024x32.size h).toLoadRect f = f :=
  Memref.readAt_unit_zero (Elt F) cc0_stg6_0 hz2 h f
theorem ld7 (f : (cc0_stg7_0 : Ref sig .tc).ty.Contents (Elt F)) (h : ∀ a, ![0, 0] a + S1024x1024.size a ≤ S1024x1024.size a) :
    View.readAt (Elt F) (Memref.whole cc0_stg7_0 : Memref sig .tc .vmem S1024x1024 .bf16).view (Rect.unit ![0, 0] S1024x1024.size h).toLoadRect f = f :=
  Memref.readAt_unit_zero (Elt F) cc0_stg7_0 hz2 h f
theorem ld9 (f : (cc0_scratch0 : Ref sig .tc).ty.Contents (Elt F)) (h : ∀ a, ![0, 0] a + S512x64.size a ≤ S512x64.size a) :
    View.readAt (Elt F) (Memref.whole cc0_scratch0 : Memref sig .tc .vmem S512x64 .bf16).view (Rect.unit ![0, 0] S512x64.size h).toLoadRect f = f :=
  Memref.readAt_unit_zero (Elt F) cc0_scratch0 hz2 h f
theorem ld10 (f : (cc0_scratch1 : Ref sig .tc).ty.Contents (Elt F)) (h : ∀ a, ![0, 0] a + S512x64.size a ≤ S512x64.size a) :
    View.readAt (Elt F) (Memref.whole cc0_scratch1 : Memref sig .tc .vmem S512x64 .bf16).view (Rect.unit ![0, 0] S512x64.size h).toLoadRect f = f :=
  Memref.readAt_unit_zero (Elt F) cc0_scratch1 hz2 h f
theorem ld11 (f : (cc0_scratch2 : Ref sig .tc).ty.Contents (Elt F)) (h : ∀ a, ![0, 0] a + S64x2048.size a ≤ S64x2048.size a) :
    View.readAt (Elt F) (Memref.whole cc0_scratch2 : Memref sig .tc .vmem S64x2048 .bf16).view (Rect.unit ![0, 0] S64x2048.size h).toLoadRect f = f :=
  Memref.readAt_unit_zero (Elt F) cc0_scratch2 hz2 h f
theorem ld12 (f : (cc0_scratch3 : Ref sig .tc).ty.Contents (Elt F)) (h : ∀ a, ![0, 0] a + S64x2048.size a ≤ S64x2048.size a) :
    View.readAt (Elt F) (Memref.whole cc0_scratch3 : Memref sig .tc .vmem S64x2048 .bf16).view (Rect.unit ![0, 0] S64x2048.size h).toLoadRect f = f :=
  Memref.readAt_unit_zero (Elt F) cc0_scratch3 hz2 h f
theorem ld16 (f : (cc0_scratch7 : Ref sig .tc).ty.Contents (Elt F)) (h : ∀ a, ![0, 0] a + S512x1024.size a ≤ S512x1024.size a) :
    View.readAt (Elt F) (Memref.whole cc0_scratch7 : Memref sig .tc .vmem S512x1024 .bf16).view (Rect.unit ![0, 0] S512x1024.size h).toLoadRect f = f :=
  Memref.readAt_unit_zero (Elt F) cc0_scratch7 hz2 h f

/-- A whole landing buffer of the projections' shape holds, after a copy, what the source held. -/
theorem landed_w (fd : (cc0_scratch3 : Ref sig .tc).ty.Contents (Elt F)) (fs : (cc0_scratch2 : Ref sig .tc).ty.Contents (Elt F)) :
    (wRecv : Memref sig .tc .vmem S64x2048 .bf16).view.write (Elt F) fd ((wSend : Memref sig .tc .vmem S64x2048 .bf16).view.read (Elt F) fs) Finset.univ = fs := by
  show (View.whole cc0_scratch3).write (Elt F) fd ((View.whole cc0_scratch2).read (Elt F) fs) Finset.univ = fs
  rw [View.read_whole]
  exact View.write_whole_univ _ _ _

/-- The same of the latent's. -/
theorem landed_c (fd : (cc0_scratch1 : Ref sig .tc).ty.Contents (Elt F)) (fs : (cc0_scratch0 : Ref sig .tc).ty.Contents (Elt F)) :
    (cRecv : Memref sig .tc .vmem S512x64 .bf16).view.write (Elt F) fd ((cSend : Memref sig .tc .vmem S512x64 .bf16).view.read (Elt F) fs) Finset.univ = fs := by
  show (View.whole cc0_scratch1).write (Elt F) fd ((View.whole cc0_scratch0).read (Elt F) fs) Finset.univ = fs
  rw [View.read_whole]
  exact View.write_whole_univ _ _ _

/-- What the wait for the latent's half yields: the landing buffer with the peer's half. -/
theorem landed_at3 (c : Dev nD) : bigSep ((exch m).duties (kcell (c, 3)) 0) (fun d => (exch m).payload (kcell (c, 3)) 0 d)
    = holds c cc0_scratch1 fullShare (cHalf m (peer c)) := duty_at m c 3

/-- What the wait for the projections' half yields. -/
theorem landed_at4 (c : Dev nD) : bigSep ((exch m).duties (kcell (c, 4)) 0) (fun d => (exch m).payload (kcell (c, 4)) 0 d)
    = holds c cc0_scratch3 fullShare (wHalf m (peer c)) := duty_at m c 4

/-- The copy of the projections' half to the peer: it takes the half share of the source and the peer's landing
    buffer, pays the peer's receive cell, and leaves the latent's credit owed. -/
theorem wp_send_w (K : Dev nD × Fin 5 → ℕ) (c n : Dev nD) (hn : n = peer c)
    {hsc : (wRecv : Memref sig (Dev.tc n : Thread nD τ).2.kind .vmem S64x2048 .bf16).view.ref.isScScratch = false}
    {hsrc : (wSend : Memref sig .tc .vmem S64x2048 .bf16).view.WordExact} {hdst : (wRecv : Memref sig .tc .vmem S64x2048 .bf16).view.WordExact}
    {hsem : DmaTarget.Typed .vmem (.dma rcv1) (.remote (Dev.tc n : Thread nD τ) (wRecv : Memref sig .tc .vmem S64x2048 .bf16) (.dma snd1) hsc)}
    {α : Type} {Q : α → sProp 𝕄} {k : PUnit → Prog (TpuEff nD τ sig (Elt F) Λ₀ .tc) α}
    (fn : Buf (Elt F) ((peer c : Thread nD τ).loc cc0_scratch3)) (W : Waits sig Unit) :
    iprop(cellInv EX (exch m) (K (c, 2)) (kcell (c, 2)) ∗ cellInv EX (exch m) (K (peer c, 4)) (kcell (peer c, 4))
        ∗ holds c cc0_scratch2 fullShare.right (wHalf m c) ∗ holds (peer c) cc0_scratch3 fullShare fn
        ∗ owes (c : Thread nD τ) (O₁ c) W
        ∗ dutyTok EX (kcell (c, 2)) 0 () ∗ reached EX (kcell (c, 2)) 0
        ∗ dutyTok EX (kcell (peer c, 4)) 0 () ∗ reached EX (kcell (peer c, 4)) 0)
      ⊢ iprop(((cred (tallyAt (kcell (c, 2)) () Nw) ∗ owes (c : Thread nD τ) (tallyAt (kcell (peer c, 3)) () Nc) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma wSend (.remote (Dev.tc n : Thread nD τ) wRecv (.dma snd1) hsc) (.dma rcv1) hsrc hdst hsem) k) Q) := by
  subst hn
  have hs : (wSend : Memref sig .tc .vmem S64x2048 .bf16).view.set = Finset.univ := View.set_whole _
  have hr : (wRecv : Memref sig .tc .vmem S64x2048 .bf16).view.set = Finset.univ := View.set_whole _
  have h := Rounds.wp_send_pointsTo (Γ := .empty) (Es := Set.univ) (defs := defs₀ (F := F)) (hsc := hsc) (hsrc := hsrc) (hdst := hdst) (hsem := hsem) (k := k) (Q := Q)
    𝒱₀ EX (exch m) (c : Thread nD τ) none (κ₁ := K (c, 2)) (κ₂ := K (peer c, 4)) (q := fullShare.right) (fs := wHalf m c)
    (r₁ := 0) (r₂ := 0) (d₁ := ()) (d₂ := ()) (fd := fn) (mem_duties m c 2) (mem_duties m (peer c) 4)
    () () Nw rfl (amount_at m c 2 ()) (amount_at m (peer c) 4 ()) (tallyAt (kcell (peer c, 3)) () Nc) rfl (W := W)
    (by rw [hs, show ((c : Thread nD τ), SemLoc.dma snd1) = kcell (c, 2) from rfl, payload_at]; exact BI.Entails.refl _)
    (by rw [hr, show ((peer c : Thread nD τ), SemLoc.dma rcv1) = kcell (peer c, 4) from rfl, payload_at, landed_w]
        dsimp only [pay]; rw [peer_peer])
  rw [hs, hr] at h
  exact h

/-- The copy of the latent half to the peer. -/
theorem wp_send_c (K : Dev nD × Fin 5 → ℕ) (c n : Dev nD) (hn : n = peer c)
    {hsc : (cRecv : Memref sig (Dev.tc n : Thread nD τ).2.kind .vmem S512x64 .bf16).view.ref.isScScratch = false}
    {hsrc : (cSend : Memref sig .tc .vmem S512x64 .bf16).view.WordExact} {hdst : (cRecv : Memref sig .tc .vmem S512x64 .bf16).view.WordExact}
    {hsem : DmaTarget.Typed .vmem (.dma rcv0) (.remote (Dev.tc n : Thread nD τ) (cRecv : Memref sig .tc .vmem S512x64 .bf16) (.dma snd0) hsc)}
    {α : Type} {Q : α → sProp 𝕄} {k : PUnit → Prog (TpuEff nD τ sig (Elt F) Λ₀ .tc) α}
    (fn : Buf (Elt F) ((peer c : Thread nD τ).loc cc0_scratch1)) (W : Waits sig Unit) :
    iprop(cellInv EX (exch m) (K (c, 1)) (kcell (c, 1)) ∗ cellInv EX (exch m) (K (peer c, 3)) (kcell (peer c, 3))
        ∗ holds c cc0_scratch0 fullShare.right (cHalf m c) ∗ holds (peer c) cc0_scratch1 fullShare fn
        ∗ owes (c : Thread nD τ) (tallyAt (kcell (peer c, 3)) () Nc) W
        ∗ dutyTok EX (kcell (c, 1)) 0 () ∗ reached EX (kcell (c, 1)) 0
        ∗ dutyTok EX (kcell (peer c, 3)) 0 () ∗ reached EX (kcell (peer c, 3)) 0)
      ⊢ iprop(((cred (tallyAt (kcell (c, 1)) () Nc) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma cSend (.remote (Dev.tc n : Thread nD τ) cRecv (.dma snd0) hsc) (.dma rcv0) hsrc hdst hsem) k) Q) := by
  subst hn
  have hs : (cSend : Memref sig .tc .vmem S512x64 .bf16).view.set = Finset.univ := View.set_whole _
  have hr : (cRecv : Memref sig .tc .vmem S512x64 .bf16).view.set = Finset.univ := View.set_whole _
  have h := Rounds.wp_send_pointsTo (Γ := .empty) (Es := Set.univ) (defs := defs₀ (F := F)) (hsc := hsc) (hsrc := hsrc) (hdst := hdst) (hsem := hsem) (k := k) (Q := Q)
    𝒱₀ EX (exch m) (c : Thread nD τ) none (κ₁ := K (c, 1)) (κ₂ := K (peer c, 3)) (q := fullShare.right) (fs := cHalf m c)
    (r₁ := 0) (r₂ := 0) (d₁ := ()) (d₂ := ()) (fd := fn) (mem_duties m c 1) (mem_duties m (peer c) 3)
    () () Nc rfl (amount_at m c 1 ()) (amount_at m (peer c) 3 ()) 0 (by rw [zero_add]) (W := W)
    (by rw [hs, show ((c : Thread nD τ), SemLoc.dma snd0) = kcell (c, 1) from rfl, payload_at]; exact BI.Entails.refl _)
    (by rw [hr, show ((peer c : Thread nD τ), SemLoc.dma rcv0) = kcell (peer c, 3) from rfl, payload_at, landed_c]
        dsimp only [pay]; rw [peer_peer])
  rw [hs, hr] at h
  exact h

/-- The eight scratch buffers at some contents. -/
def scratches (c : Dev nD) : sProp 𝕄 :=
  iprop((∃ f, holds c cc0_scratch0 fullShare f) ∗ (∃ f, holds c cc0_scratch1 fullShare f)
    ∗ (∃ f, holds c cc0_scratch2 fullShare f) ∗ (∃ f, holds c cc0_scratch3 fullShare f)
    ∗ (∃ f, holds c cc0_scratch4 fullShare f) ∗ (∃ f, holds c cc0_scratch5 fullShare f)
    ∗ (∃ f, holds c cc0_scratch6 fullShare f) ∗ (∃ f, holds c cc0_scratch7 fullShare f))

/-- The five cells closed, their counters at zero. -/
def zeros (c : Dev nD) : sProp 𝕄 :=
  iprop(semVal (kcell (c, 0)) 0 ∗ semVal (kcell (c, 1)) 0 ∗ semVal (kcell (c, 2)) 0 ∗ semVal (kcell (c, 3)) 0 ∗ semVal (kcell (c, 4)) 0)

/-- What a run of the body leaves: nothing owed, the inputs as they were, the result, the scratch buffers, the counters at zero. -/
def bodyDone (c : Dev nD) : sProp 𝕄 :=
  iprop((∃ W, owes (c : Thread nD τ) 0 W) ∗ inputs m c ∗ holds c cc0_stg8_0 fullShare (outAll m c) ∗ scratches c ∗ zeros c)

/-- What comes back with a send cell's credit: the half share of the source lent to the copy. -/
theorem back_at1 (c : Dev nD) : bigSep ((exch m).duties (kcell (c, 1)) 0) (fun d => (exch m).payload (kcell (c, 1)) 0 d)
    = holds c cc0_scratch0 fullShare.right (cHalf m c) := duty_at m c 1
theorem back_at2 (c : Dev nD) : bigSep ((exch m).duties (kcell (c, 2)) 0) (fun d => (exch m).payload (kcell (c, 2)) 0 d)
    = holds c cc0_scratch2 fullShare.right (wHalf m c) := duty_at m c 2

set_option maxHeartbeats 4000000 in
/-- The body, executed from the launch's state of one device to `bodyDone`. -/
theorem body_run (K : Dev nD × Fin 5 → ℕ) (c : Dev nD) (W : Waits sig Unit) (Kt : PUnit → sProp 𝕄)
    (g8 : Buf (Elt F) ((c : Thread nD τ).loc cc0_stg8_0))
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (f5 : Buf (Elt F) ((c : Thread nD τ).loc cc0_scratch5))
    (f6 : Buf (Elt F) ((c : Thread nD τ).loc cc0_scratch6)) (f7 : Buf (Elt F) ((c : Thread nD τ).loc cc0_scratch7)) :
    iprop(invs m K c ∗ marks c ∗ payToks c ∗ posAt c 0 ∗ creds c ∗ levAts L lv ∗ owes (c : Thread nD τ) (O₀ c) W
      ∗ inputs m c
      ∗ holds c cc0_stg8_0 fullShare (g8)
      ∗ holds c cc0_scratch0 fullShare (f0) ∗ holds c cc0_scratch1 fullShare (f1)
      ∗ holds c cc0_scratch2 fullShare (f2) ∗ holds c cc0_scratch3 fullShare (f3)
      ∗ holds c cc0_scratch4 fullShare (f4) ∗ holds c cc0_scratch5 fullShare (f5)
      ∗ holds c cc0_scratch6 fullShare (f6) ∗ holds c cc0_scratch7 fullShare (f7)
      ∗ (bodyDone m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_stg8_0) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) (Memref.whole cc0_scratch6) (Memref.isWhole_whole _)
            (Memref.whole cc0_scratch7) (Memref.isWhole_whole _) cc0_scratch8 cc0_scratch9) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
  unfold invs marks payToks posAt creds inputs
  iintro ⟨⟨⟨#HI0, #HI1, #HI2, #HI3, #HI4⟩, #HP0, #HP3, #HP4⟩, ⟨#HrP0, #HrP3, #HrP4, #Hr1, #Hr2⟩, ⟨HtP0, HtP3, HtP4, Ht1, Ht2⟩,
    ⟨Hat0, Hat1, Hat2, Hat3, Hat4⟩, ⟨Hc0, Hc3, Hc4⟩, #Hlev, HO, ⟨Hx0, Hx1, Hx2, Hx3, Hx4, Hx5, Hx6, Hx7⟩,
    Hout, Hcs, Hcr, Hws, Hwr, Hqq, Hkk, Hvv, Hob, Hk⟩
  sl_exec
  iapply (Rounds.wp_signal 𝒱₀ EX (exch m) (c : Thread nD τ) none (dst := (peer c : Thread nD τ)) (κ := K (peer c, 0))
      (d := ()) (mem_duties m (peer c) 0) ((amount_at m (peer c) 0 ()).trans (by decide)) () (O₁ c) rfl)
    $$ [HO HtP0 Hcr Hwr]
  · isplitr; · iexact HP0
    isplitl [HO]; · iexact HO
    isplitl [HtP0]; · iexact HtP0
    isplitl [Hcr Hwr]
    · rw [show ((peer c : Thread nD τ), SemLoc.reg barS) = kcell (peer c, 0) from rfl, payload_at]
      dsimp only [pay]; rw [peer_peer]
      isplitl [Hcr]
      · iexists f1; iexact Hcr
      · iexists f3; iexact Hwr
    iexact HrP0
  iintro HO
  sl_exec
  iapply (Rounds.wp_wait_rest_token 𝒱₀ EX (exch m) (c : Thread nD τ) none (κ := K (c, 0))
      (wpE_semWait_eq 𝒱₀ (c : Thread nD τ) none Set.univ) (Set.mem_univ _) () (O := O₁ c) (W := W) (R := 0) (m := 0) (T := ∅)
      (by rw [show ((c : Thread nD τ), SemLoc.reg barS) = kcell (c, 0) from rfl, expect_at]; decide)) $$ [Hc0 HO Hat0]
  · isplitr; · iexact HI0
    isplitl [Hc0]; · iexact Hc0
    isplitl [HO]; · iexact HO
    isplitr; · iapply (mayWait_bar c); iexact Hlev
    iexact Hat0
  iintro ⟨HO, Hat0, -, Hpay⟩
  ihave Hp := (Entails.of_eq (rest_at m c 0)) $$ Hpay
  dsimp only [pay]
  icases Hp with ⟨⟨%g1, Hcr⟩, ⟨%g3, Hwr⟩⟩
  sl_exec!
  have hws : (wSend : Memref sig .tc .vmem S64x2048 .bf16).view.writes (Elt F) (wSend : Memref sig .tc .vmem S64x2048 .bf16).view.junk (_root_.Cert.KernelIdealProof.body_run.sl.Hws_2 m c) = wHalf m c := by
    unfold wHalf _root_.Cert.KernelIdealProof.body_run.sl.Hws_2
    rw [ld2, ld3]
  rw [hws]
  ihave Hws2 := (pointsTo_share (PosShare.mem_left_op_right fullShare)).1 $$ Hws
  icases Hws2 with ⟨Hws, HwsL⟩
  iapply (wp_send_w m K c _ (dev2_peer c) g3 (insert (SemLoc.reg barS, ()) W)) $$ [HwsL Hwr HO Ht2 HtP4]
  · isplitr; · iexact HI2
    isplitr; · iexact HP4
    isplitl [HwsL]; · iexact HwsL
    isplitl [Hwr]; · iexact Hwr
    isplitl [HO]; · iexact HO
    isplitl [Ht2]; · iexact Ht2
    isplitr; · iexact Hr2
    isplitl [HtP4]; · iexact HtP4
    iexact HrP4
  iintro ⟨Hc2, HO⟩
  sl_exec!
  have hcs : (cSend : Memref sig .tc .vmem S512x64 .bf16).view.writes (Elt F) (cSend : Memref sig .tc .vmem S512x64 .bf16).view.junk (_root_.Cert.KernelIdealProof.body_run.sl.Hcs_1 m c) = cHalf m c := by
    unfold cHalf _root_.Cert.KernelIdealProof.body_run.sl.Hcs_1
    rw [ld0, ld1]
    exact Memref.write_access_unit_zero_univ (Elt F) cc0_scratch0 hz2 inb_S512x64_S512x64_0_0 _ _
  rw [hcs]
  ihave Hcs2 := (pointsTo_share (PosShare.mem_left_op_right fullShare)).1 $$ Hcs
  icases Hcs2 with ⟨Hcs, HcsL⟩
  iapply (wp_send_c m K c _ (dev3_peer c) g1 (insert (SemLoc.reg barS, ()) W)) $$ [HcsL Hcr HO Ht1 HtP3]
  · isplitr; · iexact HI1
    isplitr; · iexact HP3
    isplitl [HcsL]; · iexact HcsL
    isplitl [Hcr]; · iexact Hcr
    isplitl [HO]; · iexact HO
    isplitl [Ht1]; · iexact Ht1
    isplitr; · iexact Hr1
    isplitl [HtP3]; · iexact HtP3
    iexact HrP3
  iintro ⟨Hc1, HO⟩
  sl_exec!
  have hqq : (Memref.whole cc0_scratch4 : Memref sig .tc .vmem S512x1536 .bf16).view.writes (Elt F) (Memref.whole cc0_scratch4 : Memref sig .tc .vmem S512x1536 .bf16).view.junk (_root_.Cert.KernelIdealProof.body_run.sl.Hqq_32 m c) = qqAll m c := by
    refine .trans (congrArg _ ?_) (writes_qq _ _ _)
    unfold _root_.Cert.KernelIdealProof.body_run.sl.Hqq_32 qAll qrAll
    unfold _root_.Cert.KernelIdealProof.body_run.sl.r_6 _root_.Cert.KernelIdealProof.body_run.sl.r_7 _root_.Cert.KernelIdealProof.body_run.sl.r_8
    unfold _root_.Cert.KernelIdealProof.body_run.sl.r_4 _root_.Cert.KernelIdealProof.body_run.sl.r_2
    unfold _root_.Cert.KernelIdealProof.body_run.sl.r_1 _root_.Cert.KernelIdealProof.body_run.sl.r_3
    rw [ld0, ld4, ld5]
    rfl
  rw [hqq]
  ihave Hrc := (Entails.of_eq (landed_at3 m c)) $$ Hat3_pay1
  ihave Hrw := (Entails.of_eq (landed_at4 m c)) $$ Hat4_pay1
  set_option sl_exec.stopBefore "k0_part15_skel" in sl_exec!
  set_option sl_exec.maxSteps 5 in sl_exec!
  rw [kk_stores m c]
  rw [vv_stores m c]
  sl_exec!
  have hL : _root_.Cert.KernelIdealProof.body_run.sl.Hob_32 m c f6 = attnStores (attnBlk (qqAll m c) (kkAll m c) (vvAll m c f6)) := by
    unfold _root_.Cert.KernelIdealProof.body_run.sl.Hob_32
    rfl
  have hob := attn_stores m c (Memref.whole cc0_scratch7 : Memref sig .tc .vmem S512x1024 .bf16).view.junk f6 _ hL
  rw [hob]
  have hread : (Memref.whole cc0_scratch7 : Memref sig .tc .vmem S512x1024 .bf16).view.readCov (_root_.Cert.KernelIdealProof.body_run.sl.Hob_32 m c f6)
      (Rect.unit ![0, 0] S512x1024.size inb_S512x1024_S512x1024_0_0).toLoadRect = attn m c := by
    refine .trans ?_ (ld16 (attn m c) inb_S512x1024_S512x1024_0_0)
    rw [← hob]
    rfl
  have hout : (Memref.whole cc0_stg8_0 : Memref sig .tc .vmem S2x256x1024 .f32).view.writes (Elt F) (Memref.whole cc0_stg8_0 : Memref sig .tc .vmem S2x256x1024 .f32).view.junk (_root_.Cert.KernelIdealProof.body_run.sl.Hout_1 m c f6) = outAll m c := by
    unfold outAll _root_.Cert.KernelIdealProof.body_run.sl.Hout_1 _root_.Cert.KernelIdealProof.body_run.sl.v1025
    rw [ld7]
    rw [hread]
    exact Memref.write_access_unit_zero_univ (Elt F) cc0_stg8_0 hz3 inb_S2x256x1024_S2x256x1024_0_0_0 _ _
  rw [hout]
  ihave Hcs2 := (Entails.of_eq (back_at1 m c)) $$ Hat1_pay1
  ihave Hws2 := (Entails.of_eq (back_at2 m c)) $$ Hat2_pay1
  ihave Hcs := (pointsTo_share (PosShare.mem_left_op_right fullShare)).2 $$ [Hcs Hcs2]
  · isplitl [Hcs] <;> iassumption
  ihave Hws := (pointsTo_share (PosShare.mem_left_op_right fullShare)).2 $$ [Hws Hws2]
  · isplitl [Hws] <;> iassumption
  imod (Rounds.cell_close EX (exch m) (Set.mem_univ (K (c, 0))) (fun h => h) (R := 0 + 1) (duties_later m (kcell (c, 0)))) $$ [Hat0] with Hz0
  · isplitr; · iexact HI0
    iexact Hat0
  imod (Rounds.cell_close EX (exch m) (Set.mem_univ (K (c, 1))) (fun h => h) (R := 0 + 1) (duties_later m (kcell (c, 1)))) $$ [Hat1] with Hz1
  · isplitr; · iexact HI1
    iexact Hat1
  imod (Rounds.cell_close EX (exch m) (Set.mem_univ (K (c, 2))) (fun h => h) (R := 0 + 1) (duties_later m (kcell (c, 2)))) $$ [Hat2] with Hz2
  · isplitr; · iexact HI2
    iexact Hat2
  imod (Rounds.cell_close EX (exch m) (Set.mem_univ (K (c, 3))) (fun h => h) (R := 0 + 1) (duties_later m (kcell (c, 3)))) $$ [Hat3] with Hz3
  · isplitr; · iexact HI3
    iexact Hat3
  imod (Rounds.cell_close EX (exch m) (Set.mem_univ (K (c, 4))) (fun h => h) (R := 0 + 1) (duties_later m (kcell (c, 4)))) $$ [Hat4] with Hz4
  · isplitr; · iexact HI4
    iexact Hat4
  rw [wp_ret]; imodintro
  iapply Hk
  unfold bodyDone inputs scratches zeros
  isplitl [HO]; · iexists _; iexact HO
  isplitl [Hx0 Hx1 Hx2 Hx3 Hx4 Hx5 Hx6 Hx7]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [Hout]; · iexact Hout
  isplitl [Hcs Hrc Hws Hrw Hqq Hkk Hvv Hob]
  · isplitl [Hcs]; · iexists _; iexact Hcs
    isplitl [Hrc]; · iexists _; iexact Hrc
    isplitl [Hws]; · iexists _; iexact Hws
    isplitl [Hrw]; · iexists _; iexact Hrw
    isplitl [Hqq]; · iexists _; iexact Hqq
    isplitl [Hkk]; · iexists _; iexact Hkk
    isplitl [Hvv]; · iexists _; iexact Hvv
    iexists _; iexact Hob
  isplitl [Hz0]; · iexact Hz0
  isplitl [Hz1]; · iexact Hz1
  isplitl [Hz2]; · iexact Hz2
  isplitl [Hz3]; · iexact Hz3
  iexact Hz4
  · unfold _root_.Cert.KernelIdealProof.body_run.sl.r_10
    unfold _root_.Cert.KernelIdealProof.body_run.sl.r_9
    rw [ld9, ld10, ld11, ld12]
    rfl
  · unfold _root_.Cert.KernelIdealProof.body_run.sl.r_12 _root_.Cert.KernelIdealProof.body_run.sl.r_11
    unfold _root_.Cert.KernelIdealProof.body_run.sl.r_9
    unfold _root_.Cert.KernelIdealProof.body_run.sl.r_5
    unfold _root_.Cert.KernelIdealProof.body_run.sl.r_1
    rw [ld9, ld10, ld11, ld12, ld0, ld6]
    rfl

end Cert.KernelIdealProof

end
-- ==== Proof.KernelIdealLaunch.lean ====
/-
The launch: what every device starts from, the body's obligation, and the run of the whole machine.

Every device's own five cells are set up at once, their duty tokens dealt to the devices that pay them: a device keeps
the tokens of its own send cells and receives those of its peer's barrier and receive cells.
-/
module

public import proofs.«01_k».proof.Proof.KernelIdealBody
public import proofs.«01_k».proof.Proof.Gen.KernelIdeal.Points
public import Idealize.ShloMosaic.Lib.Pipeline.CollectiveSegs
public import Idealize.ShloMosaic.Lib.Pipeline.ValueKit

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The proof data of the region -/

/-- What the exchange gives device `c`: the invariants, the marks, the tokens it pays with, its positions. -/
def ghost (K : Dev nD × Fin 5 → ℕ) (c : Dev nD) : sProp 𝕄 :=
  iprop(invs m K c ∗ marks c ∗ payToks c ∗ posAt c 0)

/-- What device `c`'s body starts from, its buffers apart. -/
def start (c : Dev nD) : sProp 𝕄 := iprop((∃ K, ghost m K c) ∗ creds c ∗ levAts L lv)

/-- Before the region's one point, and after it. -/
def Φ₀ (c : Dev nD) : sProp 𝕄 := iprop(start m c ∗ scratches c)
def Φ₁ (c : Dev nD) : sProp 𝕄 := iprop(scratches c ∗ zeros c)

/-- The proof data: the arrays as launched, the windows after the body, the invariant, what is owed. -/
def dats (_ : Fin 1) (c : Dev nD) : Dat τ (Elt F) Unit ℕ UU ℕ cfg0 c where
  A w := m ((cfg0.win w).arr.view.loc (c : Thread nD τ))
  after w _ := match w with
    | ⟨0, _⟩ => x0 m c
    | ⟨1, _⟩ => x1 m c
    | ⟨2, _⟩ => x2 m c
    | ⟨3, _⟩ => x3 m c
    | ⟨4, _⟩ => x4 m c
    | ⟨5, _⟩ => x5 m c
    | ⟨6, _⟩ => x6 m c
    | ⟨7, _⟩ => x7 m c
    | ⟨8, _⟩ => outAll m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

/-- A whole staging buffer owned at contents `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! A fetched window holds its block of the argument. -/

theorem before_0 (c : Dev nD) (d) : (dats m 0 c).before (0 : Fin 9) t0_0 d = x0 m c := by
  unfold Dat.before; rw [if_pos (fetch0_0 t0_0)]; rfl
theorem before_1 (c : Dev nD) (d) : (dats m 0 c).before (1 : Fin 9) t0_0 d = x1 m c := by
  unfold Dat.before; rw [if_pos (fetch0_1 t0_0)]; rfl
theorem before_2 (c : Dev nD) (d) : (dats m 0 c).before (2 : Fin 9) t0_0 d = x2 m c := by
  unfold Dat.before; rw [if_pos (fetch0_2 t0_0)]; rfl
theorem before_3 (c : Dev nD) (d) : (dats m 0 c).before (3 : Fin 9) t0_0 d = x3 m c := by
  unfold Dat.before; rw [if_pos (fetch0_3 t0_0)]; rfl
theorem before_4 (c : Dev nD) (d) : (dats m 0 c).before (4 : Fin 9) t0_0 d = x4 m c := by
  unfold Dat.before; rw [if_pos (fetch0_4 t0_0)]; rfl
theorem before_5 (c : Dev nD) (d) : (dats m 0 c).before (5 : Fin 9) t0_0 d = x5 m c := by
  unfold Dat.before; rw [if_pos (fetch0_5 t0_0)]; rfl
theorem before_6 (c : Dev nD) (d) : (dats m 0 c).before (6 : Fin 9) t0_0 d = x6 m c := by
  unfold Dat.before; rw [if_pos (fetch0_6 t0_0)]; rfl
theorem before_7 (c : Dev nD) (d) : (dats m 0 c).before (7 : Fin 9) t0_0 d = x7 m c := by
  unfold Dat.before; rw [if_pos (fetch0_7 t0_0)]; rfl

def bodyPre (c : Dev nD) : sProp 𝕄 :=
  iprop(Φ₀ m c ∗ (dats m 0 c).owesAt () (t0_0 : Fin cfg0.N).castSucc
    ∗ (∃ d, stg c cc0_stg0_0 ((dats m 0 c).before (0 : Fin 9) t0_0 d))
    ∗ (∃ d, stg c cc0_stg1_0 ((dats m 0 c).before (1 : Fin 9) t0_0 d))
    ∗ (∃ d, stg c cc0_stg2_0 ((dats m 0 c).before (2 : Fin 9) t0_0 d))
    ∗ (∃ d, stg c cc0_stg3_0 ((dats m 0 c).before (3 : Fin 9) t0_0 d))
    ∗ (∃ d, stg c cc0_stg4_0 ((dats m 0 c).before (4 : Fin 9) t0_0 d))
    ∗ (∃ d, stg c cc0_stg5_0 ((dats m 0 c).before (5 : Fin 9) t0_0 d))
    ∗ (∃ d, stg c cc0_stg6_0 ((dats m 0 c).before (6 : Fin 9) t0_0 d))
    ∗ (∃ d, stg c cc0_stg7_0 ((dats m 0 c).before (7 : Fin 9) t0_0 d))
    ∗ (∃ d, stg c cc0_stg8_0 ((dats m 0 c).before (8 : Fin 9) t0_0 d)))

def bodyPost (c : Dev nD) : sProp 𝕄 :=
  iprop(Φ₁ c ∗ (dats m 0 c).owesAt () (t0_0 : Fin cfg0.N).succ
    ∗ stg c cc0_stg0_0 (x0 m c)
    ∗ stg c cc0_stg1_0 (x1 m c)
    ∗ stg c cc0_stg2_0 (x2 m c)
    ∗ stg c cc0_stg3_0 (x3 m c)
    ∗ stg c cc0_stg4_0 (x4 m c)
    ∗ stg c cc0_stg5_0 (x5 m c)
    ∗ stg c cc0_stg6_0 (x6 m c)
    ∗ stg c cc0_stg7_0 (x7 m c)
    ∗ stg c cc0_stg8_0 (outAll m c))

/-- The body's run in the shape the region's rule asks for. -/
theorem sound_body (c : Dev nD) :
    bodyPre m c ⊢ wp frame (wpE (defs₀ (F := F)) 𝒱₀ c none) Set.univ
      (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9) (fun _ => bodyPost m c) := by
  unfold bodyPre Φ₀ start ghost scratches
  simp only [before_0, before_1, before_2, before_3, before_4, before_5, before_6, before_7]
  iintro ⟨⟨⟨⟨%K, Hinv, Hmarks, Htoks, Hpos⟩, Hcr, Hlev⟩, ⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩⟩,
    Ho, ⟨%d0, %g0, %hg0, Hx0⟩, ⟨%d1, %g1, %hg1, Hx1⟩, ⟨%d2, %g2, %hg2, Hx2⟩, ⟨%d3, %g3, %hg3, Hx3⟩, ⟨%d4, %g4, %hg4, Hx4⟩, ⟨%d5, %g5, %hg5, Hx5⟩, ⟨%d6, %g6, %hg6, Hx6⟩, ⟨%d7, %g7, %hg7, Hx7⟩, ⟨%d8, %g8, %hg8, Hx8⟩⟩
  subst hg0
  subst hg1
  subst hg2
  subst hg3
  subst hg4
  subst hg5
  subst hg6
  subst hg7
  unfold Dat.owesAt Pipeline.owesWithin
  icases Ho with ⟨%W, %hW, HO⟩
  rw [show (dats m 0 c).owed (t0_0 : Fin cfg0.N).castSucc = O₀ c from rfl]
  iapply (body_run m K c W (fun _ => bodyPost m c) g8 f0 f1 f2 f3 f4 f5 f6 f7)
  isplitl [Hinv]; · iexact Hinv
  isplitl [Hmarks]; · iexact Hmarks
  isplitl [Htoks]; · iexact Htoks
  isplitl [Hpos]; · iexact Hpos
  isplitl [Hcr]; · iexact Hcr
  isplitl [Hlev]; · iexact Hlev
  isplitl [HO]; · iexact HO
  isplitl [Hx0 Hx1 Hx2 Hx3 Hx4 Hx5 Hx6 Hx7]
  · unfold inputs
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [Hx8]; · iexact Hx8
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  unfold bodyDone bodyPost Φ₁ Dat.owesAt Pipeline.owesWithin inputs
  rw [show (dats m 0 c).owed (t0_0 : Fin cfg0.N).succ = 0 from rfl]
  iintro ⟨⟨%W', HO⟩, ⟨Hx0, Hx1, Hx2, Hx3, Hx4, Hx5, Hx6, Hx7⟩, Hout, Hscr, Hz⟩
  isplitl [Hscr Hz]
  · isplitl [Hscr] <;> iassumption
  isplitl [HO]
  · iexists W'
    isplitr; · ipureintro; exact fun _ _ => Or.inl trivial
    iexact HO
  isplitl [Hx0]
  · iexists _; isplitr; · (ipureintro; rfl)
    iexact Hx0
  isplitl [Hx1]
  · iexists _; isplitr; · (ipureintro; rfl)
    iexact Hx1
  isplitl [Hx2]
  · iexists _; isplitr; · (ipureintro; rfl)
    iexact Hx2
  isplitl [Hx3]
  · iexists _; isplitr; · (ipureintro; rfl)
    iexact Hx3
  isplitl [Hx4]
  · iexists _; isplitr; · (ipureintro; rfl)
    iexact Hx4
  isplitl [Hx5]
  · iexists _; isplitr; · (ipureintro; rfl)
    iexact Hx5
  isplitl [Hx6]
  · iexists _; isplitr; · (ipureintro; rfl)
    iexact Hx6
  isplitl [Hx7]
  · iexists _; isplitr; · (ipureintro; rfl)
    iexact Hx7
  iexists _; isplitr; · (ipureintro; rfl)
  iexact Hout

set_option maxRecDepth 100000 in
/-- The body's obligation on core `c`. -/
theorem body_obligation (c : Dev nD) : BodyObligation (dats (F := F) m 0 c) (defs₀ (F := F)) 𝒱₀ () Set.univ := fun t => by
  rw [fin_N0 t]
  rw [show ∀ Φ : Fin cfg0.W → sProp 𝕄, bigSep Finset.univ Φ = _ from fun Φ => bigSep_W0 Φ, show ∀ Φ : Fin cfg0.W → sProp 𝕄, bigSep Finset.univ Φ = _ from fun Φ => bigSep_W0 Φ]
  simp only [owns_whole_eq]
  exact sound_body m c

/-! ## The launch -/

theorem ownSemFacts : Pipeline.OwnSemFacts cfg0.spec osem := by decide

/-- Every cell of every device, and every cell's duty token. -/
def exchCells : Finset (GSem nD τ sig) := Finset.univ.map ⟨kcell, kcell_injective⟩
abbrev tokOf (ck : Dev nD × Fin 5) : GSem nD τ sig × ℕ × Unit := (kcell ck, 0, ())
theorem tokOf_injective : Function.Injective (tokOf : Dev nD × Fin 5 → GSem nD τ sig × ℕ × Unit) :=
  fun _ _ h => kcell_injective (congrArg Prod.fst h)
def exchToks : Finset (GSem nD τ sig × ℕ × Unit) := Finset.univ.map ⟨tokOf, tokOf_injective⟩

/-- The resources at launch. -/
def u₀ : UU :=
  (initOf (Pipeline.cells cfgs cellOf_inj) (Pipeline.launchToks cfgs cellOf_inj), initOf exchCells exchToks)

/-- The duty tokens of device `c`'s own cells. -/
def toks (c : Dev nD) : sProp 𝕄 := bigSep Finset.univ fun k : Fin 5 => dutyTok EX (kcell (c, k)) 0 ()

/-- What the launch deals device `c`. -/
def G (c : Dev nD) : sProp 𝕄 :=
  iprop((bigSep Finset.univ fun k : Fin 5 => roundState EX (exch m) (kcell (c, k)) 0)
    ∗ (bigSep Finset.univ fun k : Fin 5 => iprop(atPos EX (kcell (c, k)) 0 ∅ 0 ∗ reached EX (kcell (c, k)) 0)) ∗ toks c)

/-- What the set-up makes of it. -/
def G' (c : Dev nD) : sProp 𝕄 := iprop(∃ K, ghost m K c)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem fund_exch : BI.own (EX (initOf exchCells exchToks)) ⊢ (|==> bigSep Finset.univ (G m) : sProp 𝕄) := by
  have hX (Φ : GSem nD τ sig → sProp 𝕄) : bigSep exchCells Φ = bigSep Finset.univ fun c : Dev nD => bigSep Finset.univ fun k : Fin 5 => Φ (kcell (c, k)) := by
    unfold exchCells; rw [bigSep_map, bigSep_univ_prod]; rfl
  have hT : bigSep exchToks (fun x => (dutyTok EX x.1 x.2.1 x.2.2 : sProp 𝕄)) = bigSep Finset.univ fun c : Dev nD => toks c := by
    unfold exchToks toks; rw [bigSep_map, bigSep_univ_prod]; rfl
  iintro HX
  imod (Rounds.fund EX (exch m) exchCells exchToks) $$ HX with ⟨Hst, Hr, Hat, Htok⟩
  imodintro
  ihave Hst' := (Entails.of_eq (hX fun g => roundState EX (exch m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The two pairs of copy semaphores are the kernel's own; -/
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0) := by
  rw [Pipeline.ownSems0_eq_of_list c osem [0, 1, 2, 3] (by decide) (by decide)]; rfl
/-- the barrier semaphore is the machine's. -/
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  exact sep_comm.1

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EX (exch m) κ (kcell (c, k))))
          ∗ (bigSep Finset.univ fun k => iprop(atPos EX (kcell (c, k)) 0 ∅ 0 ∗ reached EX (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState EX (exch m) (kcell (c, k)) 0)
      ⊢ (|={Set.univ}=> bigSep Finset.univ fun k => iprop(∃ κ : ℕ, cellInv EX (exch m) κ (kcell (c, k))) : sProp 𝕄) from by
        rw [← bigSep_sep']
        exact (bigSep_mono fun k _ => (Rounds.body_intro EX (exch m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What all devices share: every cell's invariant and its mark. -/
def records (K : Dev nD × Fin 5 → ℕ) : sProp 𝕄 :=
  iprop((bigSep Finset.univ fun ck : Dev nD × Fin 5 => cellInv EX (exch m) (K ck) (kcell ck))
    ∗ bigSep Finset.univ fun ck : Dev nD × Fin 5 => reached EX (kcell ck) 0)

instance records_persistent (K : Dev nD × Fin 5 → ℕ) : BI.Persistent (records m K) := by unfold records; infer_instance

theorem inv_at (K : Dev nD × Fin 5 → ℕ) (ck : Dev nD × Fin 5) :
    (bigSep Finset.univ fun ck : Dev nD × Fin 5 => (cellInv EX (exch m) (K ck) (kcell ck) : sProp 𝕄)) ⊢ cellInv EX (exch m) (K ck) (kcell ck) :=
  bigSep_elim (Finset.mem_univ ck)
theorem reached_at (ck : Dev nD × Fin 5) :
    (bigSep Finset.univ fun ck : Dev nD × Fin 5 => (reached EX (kcell ck) 0 : sProp 𝕄)) ⊢ reached EX (kcell ck) 0 :=
  bigSep_elim (Finset.mem_univ ck)

theorem ghost_intro (K : Dev nD × Fin 5 → ℕ) (c : Dev nD) : iprop(records m K ∗ posAt c 0 ∗ payToks c) ⊢ G' m c := by
  unfold records G' ghost invs marks
  iintro ⟨⟨#HI, #HR⟩, Hpos, Htok⟩
  iexists K
  isplitr
  · isplitr
    · isplitr; · iapply (inv_at m K (c, 0)); iexact HI
      isplitr; · iapply (inv_at m K (c, 1)); iexact HI
      isplitr; · iapply (inv_at m K (c, 2)); iexact HI
      isplitr; · iapply (inv_at m K (c, 3)); iexact HI
      iapply (inv_at m K (c, 4)); iexact HI
    isplitr; · iapply (inv_at m K (peer c, 0)); iexact HI
    isplitr; · iapply (inv_at m K (peer c, 3)); iexact HI
    iapply (inv_at m K (peer c, 4)); iexact HI
  isplitr
  · isplitr; · iapply (reached_at (F := F) (peer c, 0)); iexact HR
    isplitr; · iapply (reached_at (F := F) (peer c, 3)); iexact HR
    isplitr; · iapply (reached_at (F := F) (peer c, 4)); iexact HR
    isplitr; · iapply (reached_at (F := F) (c, 1)); iexact HR
    iapply (reached_at (F := F) (c, 2)); iexact HR
  isplitl [Htok]; · iexact Htok
  iexact Hpos

/-- The tokens dealt between the devices of each pair. -/
theorem toks_around : (bigSep Finset.univ fun c : Dev nD => (toks c : sProp 𝕄)) ⊢ bigSep Finset.univ fun c : Dev nD => payToks c := by
  unfold toks payToks
  simp only [bigSep_fin5, bigSep_sep']
  rw [bigSep_univ_equiv swap (fun c : Dev nD => (dutyTok EX (kcell (c, 0)) 0 () : sProp 𝕄)),
    bigSep_univ_equiv swap (fun c : Dev nD => (dutyTok EX (kcell (c, 3)) 0 () : sProp 𝕄)),
    bigSep_univ_equiv swap (fun c : Dev nD => (dutyTok EX (kcell (c, 4)) 0 () : sProp 𝕄))]
  iintro ⟨H0, H1, H2, H3, H4⟩
  isplitl [H0]; · iexact H0
  isplitl [H3]; · iexact H3
  isplitl [H4]; · iexact H4
  isplitl [H1]; · iexact H1
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv EX (exch m) κ (kcell (c, k))))
          ∗ (bigSep Finset.univ fun k => iprop(atPos EX (kcell (c, k)) 0 ∅ 0 ∗ reached EX (kcell (c, k)) 0)) ∗ toks c) : sProp 𝕄)
      ⊢ bigSep Finset.univ (G' m) := by
  rw [bigSep_sep', bigSep_sep', ← bigSep_univ_prod (fun ck : Dev nD × Fin 5 => iprop(∃ κ : ℕ, cellInv EX (exch m) κ (kcell ck))),
    bigSep_congr (s := Finset.univ) (fun (c : Dev nD) _ => bigSep_sep' Finset.univ (fun k : Fin 5 => (atPos EX (kcell (c, k)) 0 ∅ 0 : sProp 𝕄)) (fun k => reached EX (kcell (c, k)) 0)),
    bigSep_sep', ← bigSep_univ_prod (fun ck : Dev nD × Fin 5 => (reached EX (kcell ck) 0 : sProp 𝕄))]
  iintro ⟨HI, ⟨Hat, #HR⟩, Htok⟩
  ihave HK := (BI.bigSep_exists_pi Finset.univ (fun (ck : Dev nD × Fin 5) (κ : ℕ) => (cellInv EX (exch m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 5 => (atPos EX (kcell (c, k)) 0 ∅ 0 : sProp 𝕄)) payToks).symm).trans
      (bigSep_mono fun c _ => show _ ⊢ iprop(posAt c 0 ∗ payToks c) from Entails.of_eq (by unfold posAt; rw [bigSep_fin5])))
    isplitl [Hat]; · iexact Hat
    iexact Htk

/-- The set-up, of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- The launch credit of device `c`: what its peer owes it. -/
theorem creds_intro (c : Dev nD) : (Pipeline.launchCred O₀ c : sProp 𝕄) ⊢ creds c := by
  have h (k : Fin 5) (n : ℕ) : (Pipeline.launchCred (fun d => tallyAt (kcell (peer d, k)) () n) c : sProp 𝕄) ⊢ cred (tallyAt (kcell (c, k)) () n) :=
    Pipeline.launchCred_tallyAt (csem k) peer peer peer_peer peer_peer () n c
  rw [show (O₀ : Dev nD → CellTallies nD τ sig Unit)
      = fun d => (tallyAt (kcell (peer d, 3)) () Nc + tallyAt (kcell (peer d, 4)) () Nw) + tallyAt (kcell (peer d, 0)) () 1 from rfl,
    Pipeline.launchCred_add, Pipeline.launchCred_add]
  unfold creds
  iintro ⟨⟨H3, H4⟩, H0⟩
  isplitl [H0]; · iapply (h 0 1); iexact H0
  isplitl [H3]; · iapply (h 3 Nc); iexact H3
  iapply (h 4 Nw); iexact H4

/-! ### The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratches
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ zeros scratches
  iintro ⟨Hr, Hz0, Hz⟩
  isplitl [Hz0]; · iexact Hz0
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 100000 in
/-- From any memory with zero counters, every weakly fair execution of the sixteen devices terminates; each window's array
    ends at what the proof data name and every semaphore counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_exch m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- What a run leaves, array by array: the arguments as they were, the result the kernel's. -/
structure Left (r : PUnit × MemSt nD τ sig (Elt F)) (c : Dev nD) : Prop where
  a0 : r.2.mem ((c : Thread nD τ).loc main_arg0) = m ((c : Thread nD τ).loc main_arg0)
  a1 : r.2.mem ((c : Thread nD τ).loc main_arg1) = m ((c : Thread nD τ).loc main_arg1)
  a2 : r.2.mem ((c : Thread nD τ).loc main_arg2) = m ((c : Thread nD τ).loc main_arg2)
  a3 : r.2.mem ((c : Thread nD τ).loc main_arg3) = m ((c : Thread nD τ).loc main_arg3)
  a4 : r.2.mem ((c : Thread nD τ).loc main_arg4) = m ((c : Thread nD τ).loc main_arg4)
  a5 : r.2.mem ((c : Thread nD τ).loc main_arg5) = m ((c : Thread nD τ).loc main_arg5)
  a6 : r.2.mem ((c : Thread nD τ).loc main_arg6) = m ((c : Thread nD τ).loc main_arg6)
  a7 : r.2.mem ((c : Thread nD τ).loc main_arg7) = m ((c : Thread nD τ).loc main_arg7)
  out : r.2.mem ((c : Thread nD τ).loc main_v1) = outAll m c

theorem finalA_0 (c : Dev nD) : finalA m c (0 : Fin 9) = m ((c : Thread nD τ).loc main_arg0) := (dats m 0 c).arrAt_in (0 : Fin 9) rfl _
theorem finalA_1 (c : Dev nD) : finalA m c (1 : Fin 9) = m ((c : Thread nD τ).loc main_arg1) := (dats m 0 c).arrAt_in (1 : Fin 9) rfl _
theorem finalA_2 (c : Dev nD) : finalA m c (2 : Fin 9) = m ((c : Thread nD τ).loc main_arg2) := (dats m 0 c).arrAt_in (2 : Fin 9) rfl _
theorem finalA_3 (c : Dev nD) : finalA m c (3 : Fin 9) = m ((c : Thread nD τ).loc main_arg3) := (dats m 0 c).arrAt_in (3 : Fin 9) rfl _
theorem finalA_4 (c : Dev nD) : finalA m c (4 : Fin 9) = m ((c : Thread nD τ).loc main_arg4) := (dats m 0 c).arrAt_in (4 : Fin 9) rfl _
theorem finalA_5 (c : Dev nD) : finalA m c (5 : Fin 9) = m ((c : Thread nD τ).loc main_arg5) := (dats m 0 c).arrAt_in (5 : Fin 9) rfl _
theorem finalA_6 (c : Dev nD) : finalA m c (6 : Fin 9) = m ((c : Thread nD τ).loc main_arg6) := (dats m 0 c).arrAt_in (6 : Fin 9) rfl _
theorem finalA_7 (c : Dev nD) : finalA m c (7 : Fin 9) = m ((c : Thread nD τ).loc main_arg7) := (dats m 0 c).arrAt_in (7 : Fin 9) rfl _

/-- The result array holds the body's result: its one block is the whole array. -/
theorem finalA_out (c : Dev nD) : finalA m c (8 : Fin 9) = outAll m c := by
  refine (dats m 0 c).arrAt_eq_of_after_last (8 : Fin 9) t0_0 (by decide +kernel) _ fun j => ?_
  blk_simp
  rfl

/-- The whole machine's run, array by array. -/
theorem run : θ_run defs (onTc (τ := τ) (main (F := F))) ⟨m, fun _ => 0, ρ⟩ (fun r => (∀ c, Left m r c) ∧ r.2.sem = fun _ => 0) :=
  (θ_run defs _ _).mono (fun r h => ⟨fun c =>
    ⟨(h.1 c (0 : Fin 9)).trans (finalA_0 m c), (h.1 c (1 : Fin 9)).trans (finalA_1 m c), (h.1 c (2 : Fin 9)).trans (finalA_2 m c), (h.1 c (3 : Fin 9)).trans (finalA_3 m c), (h.1 c (4 : Fin 9)).trans (finalA_4 m c), (h.1 c (5 : Fin 9)).trans (finalA_5 m c), (h.1 c (6 : Fin 9)).trans (finalA_6 m c), (h.1 c (7 : Fin 9)).trans (finalA_7 m c),
      (h.1 c (8 : Fin 9)).trans (finalA_out m c)⟩, h.2⟩) (run_main m ρ)

end Cert.KernelIdealProof

end
-- ==== Proof.Softmax.lean ====
/-
The mathematics the kernel and the reference share, on the extended reals: sums of finite products are finite, the
exponential base two of a score scaled by `(log 2)⁻¹` is the exponential of the score, and weighing by exponentials and
dividing the weighted sum by their total is weighing by exponentials of the differences from the row's greatest, each
over their total.
-/
module

public import Idealize.ShloMosaic.PureOps.Ideal.Laws
public import Mathlib.Data.EReal.Operations
public import Mathlib.Analysis.SpecialFunctions.Pow.Real

@[expose] public section

noncomputable section

namespace Cert.Softmax

open Idealize.ShloMosaic

/-- The extended real is a real number. -/
def IsReal (a : EReal) : Prop := ∃ r : ℝ, a = (r : EReal)

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

/-- The inclusion of the reals takes sums to sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- A nonnegative real factor comes out of a sum. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- The greatest of a row of reals is a real. -/
theorem fold_max_real {n : ℕ} (hn : 0 < n) (u : Fin n → ℝ) :
    IsReal (Finset.fold max (⊥ : EReal) (fun t => (u t : EReal)) Finset.univ) := by
  obtain ⟨i, -, hi⟩ := Finset.exists_mem_eq_sup (Finset.univ : Finset (Fin n)) ⟨⟨0, hn⟩, Finset.mem_univ _⟩ (fun t => (u t : EReal))
  exact ⟨u i, hi⟩

/-- Softmax two ways: weighing by exponentials and then multiplying by the reciprocal of their sum, or weighing by the
    exponentials of the differences from any real `M`, each over their sum. -/
theorem weigh {n : ℕ} (hn : 0 < n) (u : Fin n → ℝ) (M : ℝ) (v : Fin n → EReal) :
    (∑ t, ((Real.exp (u t) : ℝ) : EReal) * v t) * Ideal.div 1 (∑ t, ((Real.exp (u t) : ℝ) : EReal) * 1)
      = ∑ t, v t * Ideal.div (Ideal.exp ((u t : EReal) - (M : EReal))) (∑ t', Ideal.exp ((u t' : EReal) - (M : EReal))) := by
  have hne : (Finset.univ : Finset (Fin n)).Nonempty := ⟨⟨0, hn⟩, Finset.mem_univ _⟩
  have hL : 0 < ∑ t, Real.exp (u t) := Finset.sum_pos (fun t _ => Real.exp_pos _) hne
  have hM : 0 < ∑ t, Real.exp (u t - M) := Finset.sum_pos (fun t _ => Real.exp_pos _) hne
  have e1 : (∑ t, ((Real.exp (u t) : ℝ) : EReal) * 1) = ((∑ t, Real.exp (u t) : ℝ) : EReal) := by
    rw [coe_sum]; exact Finset.sum_congr rfl fun t _ => mul_one _
  have e2 : ∀ t, Ideal.exp ((u t : EReal) - (M : EReal)) = ((Real.exp (u t - M) : ℝ) : EReal) := fun t => by
    rw [← EReal.coe_sub, Ideal.exp_coe]
  have e3 : (∑ t, Ideal.exp ((u t : EReal) - (M : EReal))) = ((∑ t, Real.exp (u t - M) : ℝ) : EReal) := by
    rw [coe_sum]; exact Finset.sum_congr rfl fun t _ => e2 t
  rw [e1, e3, Ideal.div_coe hL.ne', one_mul, sum_mul_real _ _ _ (by positivity)]
  refine Finset.sum_congr rfl fun t _ => ?_
  have h4 : ∑ t, Real.exp (u t - M) = (∑ t, Real.exp (u t)) * (Real.exp M)⁻¹ := by
    rw [Finset.sum_mul]; exact Finset.sum_congr rfl fun t _ => by rw [Real.exp_sub]; rfl
  rw [e2, Ideal.div_coe hM.ne', ← EReal.coe_mul, mul_comm _ (v t), mul_assoc, ← EReal.coe_mul]
  congr 2
  rw [h4, Real.exp_sub]
  have := Real.exp_pos M
  field_simp

/-- The kernel's exponential of a pair of products whose left factors carry the scale `(log 2)⁻¹ · (√96)⁻¹` is the exponential
    of the real that the reference's scaled score is. -/
theorem score_real {n k : ℕ} (q kk : Fin n → EReal) (qr kr : Fin k → EReal) (hq : ∀ i, IsReal (q i)) (hk : ∀ i, IsReal (kk i))
    (hqr : ∀ i, IsReal (qr i)) (hkr : ∀ i, IsReal (kr i)) :
    ∃ u : ℝ, (∑ i, q i * kk i + ∑ i, qr i * kr i) * (((Real.sqrt 96)⁻¹ : ℝ) : EReal) = (u : EReal) ∧
      Ideal.exp2 (∑ i, q i * (((Real.log 2)⁻¹ * (Real.sqrt 96)⁻¹ : ℝ) : EReal) * kk i
        + ∑ i, qr i * (((Real.log 2)⁻¹ * (Real.sqrt 96)⁻¹ : ℝ) : EReal) * kr i) = ((Real.exp u : ℝ) : EReal) := by
  choose q' hq using hq
  choose k' hk using hk
  choose qr' hqr using hqr
  choose kr' hkr using hkr
  refine ⟨(∑ i, q' i * k' i + ∑ i, qr' i * kr' i) * (Real.sqrt 96)⁻¹, ?_, ?_⟩
  · simp only [hq, hk, hqr, hkr, ← EReal.coe_mul, ← coe_sum, ← EReal.coe_add]
  · have hlog : Real.log 2 ≠ 0 := (Real.log_pos (by norm_num)).ne'
    simp only [hq, hk, hqr, hkr, ← EReal.coe_mul, ← coe_sum, ← EReal.coe_add, Ideal.exp2_coe]
    have e : ∑ i, q' i * ((Real.log 2)⁻¹ * (Real.sqrt 96)⁻¹) * k' i + ∑ i, qr' i * ((Real.log 2)⁻¹ * (Real.sqrt 96)⁻¹) * kr' i
        = (Real.log 2)⁻¹ * ((∑ i, q' i * k' i + ∑ i, qr' i * kr' i) * (Real.sqrt 96)⁻¹) := by
      rw [add_mul, mul_add, Finset.sum_mul, Finset.sum_mul, Finset.mul_sum, Finset.mul_sum]
      congr 1 <;> exact Finset.sum_congr rfl fun i _ => by ring
    rw [e]
    congr 1
    show (2 : ℝ) ^ (_ : ℝ) = _
    rw [Real.rpow_def_of_pos (by norm_num)]
    congr 1
    rw [← mul_assoc, mul_inv_cancel₀ hlog, one_mul]

/-- Two halves of a sum of 128 terms, in either order. -/
theorem sum_halves (f : Fin 128 → EReal) (y : ℕ) (hy : y < 2) :
    ∑ e : Fin 64, f ⟨y * 64 + e.val, by omega⟩ + ∑ e : Fin 64, f ⟨(1 - y) * 64 + e.val, by omega⟩ = ∑ e, f e := by
  have h := Fin.sum_univ_add (a := 64) (b := 64) f
  obtain rfl | rfl : y = 0 ∨ y = 1 := by omega
  · refine .trans ?_ h.symm
    refine congrArg₂ (· + ·) (Finset.sum_congr rfl fun e _ => congrArg f (Fin.ext ?_)) (Finset.sum_congr rfl fun e _ => congrArg f (Fin.ext ?_))
    · show 0 * 64 + e.val = e.val; omega
    · show (1 - 0) * 64 + e.val = 64 + e.val; omega
  · rw [add_comm]
    refine .trans ?_ h.symm
    refine congrArg₂ (· + ·) (Finset.sum_congr rfl fun e _ => congrArg f (Fin.ext ?_)) (Finset.sum_congr rfl fun e _ => congrArg f (Fin.ext ?_))
    · show (1 - 1) * 64 + e.val = e.val; omega
    · show 1 * 64 + e.val = 64 + e.val; omega

/-! ## The reference's constants -/

/-- The reference's word for 96. -/
theorem ofBits_96 : Ideal.ofBits .bf16 0x42C0#16 = ((96 : ℝ) : EReal) := by
  simp [Ideal.ofBits, Ideal.ieee, -EReal.coe_mul]; norm_num

/-- The reference's word for `−∞`, from which it takes the greatest. -/
theorem ofBits_bot : Ideal.ofBits .bf16 0xFF80#16 = ⊥ := by
  simp [Ideal.ofBits, Ideal.ieee]

/-- The reference's scale. -/
theorem rsqrt_96 : Ideal.rsqrt (Ideal.ofBits .bf16 0x42C0#16) = (((Real.sqrt 96)⁻¹ : ℝ) : EReal) := by
  rw [ofBits_96, Ideal.rsqrt_coe, if_neg (by norm_num), if_neg (by norm_num)]

end Cert.Softmax

end
-- ==== Proof.Precondition.lean ====
/-
The precondition: every element of the six arrays that the scores depend on is a real.
-/
module

public import proofs.«01_k».proof.Defs
public import proofs.«01_k».proof.Pre_finite_KernelIdeal
public import proofs.«01_k».proof.Pre_finite_ReferenceIdeal
public import proofs.«01_k».proof.Proof.Softmax

@[expose] public section

noncomputable section

namespace Cert.Precondition

open Idealize.ShloMosaic Cert.Softmax

/-- The side conditions of the precondition on the kernel's arguments. -/
theorem facts_kernel : Cert.Pre_finite_KernelIdeal.Facts := ⟨by decide, by decide, by decide, by decide, by decide, by decide⟩

/-- The side conditions of the precondition on the reference's arguments. -/
theorem facts_reference : Cert.Pre_finite_ReferenceIdeal.Facts := ⟨by decide, by decide, by decide, by decide, by decide, by decide⟩

/-- An array whose absolute values all compare below infinity holds reals. -/
theorem isReal_of_lt {S : Shape} (hb : (⟨0, ![]⟩ : Shape).BroadcastsInDim S (![] : Fin 0 → Fin S.rank)) (x : FVec Ideal S .bf16)
    (h : cmpf .olt (Host.absf x) (broadcastInDim S ![] hb (constant ⟨0, ![]⟩ .bf16 0x7F80#16)) = fun _ => 1#1) (i : S.Idx) :
    IsReal (x i) := by
  have h : Ideal.cmp .olt (max (x i : EReal) (-(x i : EReal))) (Ideal.ofBits .bf16 0x7F80#16) = 1#1 := congrFun h i
  have htop : Ideal.ofBits .bf16 0x7F80#16 = ⊤ := by simp [Ideal.ofBits, Ideal.ieee]
  rw [htop] at h
  generalize (x i : EReal) = a at h
  induction a using EReal.rec with
  | bot => simp [Ideal.cmp] at h
  | coe r => exact ⟨r, rfl⟩
  | top => simp [Ideal.cmp] at h

end Cert.Precondition

end
-- ==== Proof.ReferenceValue.lean ====
/-
The reference's result, stage by stage, at an index over the extended reals.
-/
module

public import proofs.«01_k».proof.Proof.Gen.ReferenceIdeal.Run
public import proofs.«01_k».proof.Proof.Softmax
public import Idealize.ShloMosaic.Lib.Pointwise

@[expose] public section

set_option maxRecDepth 16384

noncomputable section

namespace Cert.ReferenceValue

open Cert.ReferenceIdeal Cert.ReferenceIdeal.Gen Idealize.ShloMosaic Idealize.ShloMosaic.TcCoe Idealize.SL.Sem

/-- The latent `x · Wdkv`. -/
def lat (x : FVec Ideal S2x256x1024 .bf16) (wd : FVec Ideal S1024x128 .bf16) : FVec Ideal S2x256x128 .bf16 :=
  truncf .bf16 (Host.dotGeneral dot_S2x256x1024_S1024x128_S2x256x128_2_0_01_1_n_n none x wd) bitsLt_bf16_f32

/-- The latent times an up-projection, split into heads. -/
def up (c : FVec Ideal S2x256x128 .bf16) (w : FVec Ideal S128x1024 .bf16) : FVec Ideal S2x256x16x64 .bf16 :=
  shapeCast S2x256x16x64 (truncf .bf16 (Host.dotGeneral dot_S2x256x128_S128x1024_S2x256x1024_2_0_01_1_n_n none c w) bitsLt_bf16_f32)
    shapeCasts_S2x256x1024_S2x256x16x64

/-- The queries' content part, split into heads. -/
def qry (x : FVec Ideal S2x256x1024 .bf16) (w : FVec Ideal S1024x1024 .bf16) : FVec Ideal S2x256x16x64 .bf16 :=
  shapeCast S2x256x16x64 (truncf .bf16 (Host.dotGeneral dot_S2x256x1024_S1024x1024_S2x256x1024_2_0_01_1_n_n none x w) bitsLt_bf16_f32)
    shapeCasts_S2x256x1024_S2x256x16x64

/-- The queries' positional part, split into heads. -/
def qryR (x : FVec Ideal S2x256x1024 .bf16) (w : FVec Ideal S1024x512 .bf16) : FVec Ideal S2x256x16x32 .bf16 :=
  shapeCast S2x256x16x32 (truncf .bf16 (Host.dotGeneral dot_S2x256x1024_S1024x512_S2x256x512_2_0_01_1_n_n none x w) bitsLt_bf16_f32)
    shapeCasts_S2x256x512_S2x256x16x32

/-- The keys' positional part, the same for every head. -/
def keyR (x : FVec Ideal S2x256x1024 .bf16) (w : FVec Ideal S1024x32 .bf16) : FVec Ideal S2x256x16x32 .bf16 :=
  broadcastInDim S2x256x16x32 ![0, 1, 2, 3] bcast_S2x256x1x32_S2x256x16x32_0_1_2_3
    (shapeCast S2x256x1x32 (truncf .bf16 (Host.dotGeneral dot_S2x256x1024_S1024x32_S2x256x32_2_0_01_1_n_n none x w) bitsLt_bf16_f32)
      shapeCasts_S2x256x32_S2x256x1x32)

/-- The scaled scores. -/
def score (q k : FVec Ideal S2x256x16x64 .bf16) (qr kr : FVec Ideal S2x256x16x32 .bf16) : FVec Ideal S2x16x256x256 .bf16 :=
  mulf (addf
      (truncf .bf16 (Host.dotGeneral dot_S2x256x16x64_S2x256x16x64_S2x16x256x256_3_3_1_1_02_02 none q k) bitsLt_bf16_f32)
      (truncf .bf16 (Host.dotGeneral dot_S2x256x16x32_S2x256x16x32_S2x16x256x256_3_3_1_1_02_02 none qr kr) bitsLt_bf16_f32))
    (broadcastInDim S2x16x256x256 ![] bcast_S_S2x16x256x256 (Host.rsqrt (constant S_ .bf16 0x42C0#16)))

/-- The exponentials of the scores less their row's greatest. -/
def expo (s : FVec Ideal S2x16x256x256 .bf16) : FVec Ideal S2x16x256x256 .bf16 :=
  Host.exp (subf s (broadcastInDim S2x16x256x256 ![0, 1, 2, 3] bcast_S2x16x256x1_S2x16x256x256_0_1_2_3
    (broadcastInDim S2x16x256x1 ![0, 1, 2] bcast_S2x16x256_S2x16x256x1_0_1_2
      (Host.reduce FloatOps.maximumf s (constant S_ .bf16 0xFF80#16) reducesTo_S2x16x256x256_S2x16x256_d3 h_S_))))

/-- The exponentials over their row's sum. -/
def prob (e : FVec Ideal S2x16x256x256 .bf16) : FVec Ideal S2x16x256x256 .bf16 :=
  Host.divf e (broadcastInDim S2x16x256x256 ![0, 1, 2, 3] bcast_S2x16x256x1_S2x16x256x256_0_1_2_3
    (truncf .bf16 (broadcastInDim S2x16x256x1 ![0, 1, 2] bcast_S2x16x256_S2x16x256x1_0_1_2
      (Host.reduceAdd (extf .f32 e bitsLt_bf16_f32) (constant S_ .f32 0x00000000#32) reducesTo_S2x16x256x256_S2x16x256_d3 h_S_)) bitsLt_bf16_f32))

/-- The attention's result, the heads side by side. -/
def att (v : FVec Ideal S2x256x16x64 .bf16) (p : FVec Ideal S2x16x256x256 .bf16) : FVec Ideal S2x256x1024 .bf16 :=
  shapeCast S2x256x1024 (truncf .bf16 (transpose S2x256x16x64 [0, 3, 1, 2]
    (Host.dotGeneral dot_S2x256x16x64_S2x16x256x256_S2x16x64x256_1_3_3_2_02_01 none v p) transposes_S2x16x64x256_S2x256x16x64_0_3_1_2) bitsLt_bf16_f32)
    shapeCasts_S2x256x16x64_S2x256x1024

/-- The result `O · Wo`. -/
def res (o : FVec Ideal S2x256x1024 .bf16) (w : FVec Ideal S1024x1024 .bf16) : FVec Ideal S2x256x1024 .f32 :=
  extf .f32 (truncf .bf16 (Host.dotGeneral dot_S2x256x1024_S1024x1024_S2x256x1024_2_0_01_1_n_n none o w) bitsLt_bf16_f32) bitsLt_bf16_f32

variable (m : (ℓ : Loc nD τ sig) → Buf (Elt Ideal) ℓ) (c : Dev nD)

/-- The arguments of a run. -/
abbrev a0 : FVec Ideal S2x256x1024 .bf16 := m ((c.tc : Thread nD τ).loc main_arg0)
abbrev a1 : FVec Ideal S1024x128 .bf16 := m ((c.tc : Thread nD τ).loc main_arg1)
abbrev a2 : FVec Ideal S128x1024 .bf16 := m ((c.tc : Thread nD τ).loc main_arg2)
abbrev a3 : FVec Ideal S128x1024 .bf16 := m ((c.tc : Thread nD τ).loc main_arg3)
abbrev a4 : FVec Ideal S1024x1024 .bf16 := m ((c.tc : Thread nD τ).loc main_arg4)
abbrev a5 : FVec Ideal S1024x512 .bf16 := m ((c.tc : Thread nD τ).loc main_arg5)
abbrev a6 : FVec Ideal S1024x32 .bf16 := m ((c.tc : Thread nD τ).loc main_arg6)
abbrev a7 : FVec Ideal S1024x1024 .bf16 := m ((c.tc : Thread nD τ).loc main_arg7)

/-- A run's scores. -/
def scores : FVec Ideal S2x16x256x256 .bf16 :=
  score (qry (a0 m c) (a4 m c)) (up (lat (a0 m c) (a1 m c)) (a2 m c)) (qryR (a0 m c) (a5 m c)) (keyR (a0 m c) (a6 m c))

/-- What a run of the reference leaves in its result, stage by stage. -/
theorem res_eq : Value.res_main_v43 m c
    = res (att (up (lat (a0 m c) (a1 m c)) (a3 m c)) (prob (expo (scores m c)))) (a7 m c) := rfl

/-! ## The stages at an index -/

theorem lat_apply (x : FVec Ideal S2x256x1024 .bf16) (wd : FVec Ideal S1024x128 .bf16) (b : Fin 2) (s : Fin 256) (e : Fin 128) :
    lat x wd (ix3 b s e) = ∑ k : Fin 1024, x (ix3 b s k) * wd (ix2 k e) := by
  pointwise [lat]

theorem up_apply (c : FVec Ideal S2x256x128 .bf16) (w : FVec Ideal S128x1024 .bf16) (b : Fin 2) (s : Fin 256) (h : Fin 16) (e : Fin 64) :
    up c w (ix4 b s h e) = ∑ k : Fin 128, c (ix3 b s k) * w (ix2 k ⟨h.val * 64 + e.val, by omega⟩) := by
  pointwise [up]

theorem qry_apply (x : FVec Ideal S2x256x1024 .bf16) (w : FVec Ideal S1024x1024 .bf16) (b : Fin 2) (s : Fin 256) (h : Fin 16) (e : Fin 64) :
    qry x w (ix4 b s h e) = ∑ k : Fin 1024, x (ix3 b s k) * w (ix2 k ⟨h.val * 64 + e.val, by omega⟩) := by
  pointwise [qry]

theorem qryR_apply (x : FVec Ideal S2x256x1024 .bf16) (w : FVec Ideal S1024x512 .bf16) (b : Fin 2) (s : Fin 256) (h : Fin 16) (e : Fin 32) :
    qryR x w (ix4 b s h e) = ∑ k : Fin 1024, x (ix3 b s k) * w (ix2 k ⟨h.val * 32 + e.val, by omega⟩) := by
  pointwise [qryR]

theorem keyR_apply (x : FVec Ideal S2x256x1024 .bf16) (w : FVec Ideal S1024x32 .bf16) (b : Fin 2) (s : Fin 256) (h : Fin 16) (e : Fin 32) :
    keyR x w (ix4 b s h e) = ∑ k : Fin 1024, x (ix3 b s k) * w (ix2 k e) := by
  pointwise [keyR]

theorem score_apply (q k : FVec Ideal S2x256x16x64 .bf16) (qr kr : FVec Ideal S2x256x16x32 .bf16) (b : Fin 2) (h : Fin 16) (s t : Fin 256) :
    score q k qr kr (ix4 b h s t)
      = (∑ d : Fin 64, q (ix4 b s h d) * k (ix4 b t h d) + ∑ d : Fin 32, qr (ix4 b s h d) * kr (ix4 b t h d))
        * (((Real.sqrt 96)⁻¹ : ℝ) : EReal) := by
  pointwise [score]
  rw [Softmax.rsqrt_96]

theorem expo_apply (x : FVec Ideal S2x16x256x256 .bf16) (b : Fin 2) (h : Fin 16) (s t : Fin 256) :
    expo x (ix4 b h s t)
      = Ideal.exp (x (ix4 b h s t) - Finset.fold max (⊥ : EReal) (fun t' : Fin 256 => x (ix4 b h s t')) Finset.univ) := by
  pointwise [expo]
  rw [Softmax.ofBits_bot]

theorem prob_apply (x : FVec Ideal S2x16x256x256 .bf16) (b : Fin 2) (h : Fin 16) (s t : Fin 256) :
    prob x (ix4 b h s t) = Ideal.div (x (ix4 b h s t)) (∑ t' : Fin 256, x (ix4 b h s t')) := by
  pointwise [prob]

theorem att_apply (v : FVec Ideal S2x256x16x64 .bf16) (p : FVec Ideal S2x16x256x256 .bf16) (b : Fin 2) (s : Fin 256) (j : Fin 1024) :
    att v p (ix3 b s j) = ∑ t : Fin 256, v (ix4 b t ⟨j.val / 64, by omega⟩ ⟨j.val % 64, by omega⟩)
      * p (ix4 b ⟨j.val / 64, by omega⟩ s t) := by
  pointwise [att]

theorem res_apply (o : FVec Ideal S2x256x1024 .bf16) (w : FVec Ideal S1024x1024 .bf16) (b : Fin 2) (s : Fin 256) (e : Fin 1024) :
    res o w (ix3 b s e) = ∑ j : Fin 1024, o (ix3 b s j) * w (ix2 j e) := by
  pointwise [res]

/-- Where a row's scores are the reals `u`, the attention is the sum weighed by their exponentials, times the reciprocal of
    the exponentials' sum. -/
theorem att_eq (v : FVec Ideal S2x256x16x64 .bf16) (sc : FVec Ideal S2x16x256x256 .bf16) (b : Fin 2) (s : Fin 256) (j : Fin 1024)
    (u : Fin 256 → ℝ) (hu : ∀ t, sc (ix4 b ⟨j.val / 64, by omega⟩ s t) = ((u t : ℝ) : EReal)) :
    att v (prob (expo sc)) (ix3 b s j)
      = (∑ t, ((Real.exp (u t) : ℝ) : EReal) * v (ix4 b t ⟨j.val / 64, by omega⟩ ⟨j.val % 64, by omega⟩))
        * Ideal.div 1 (∑ t, ((Real.exp (u t) : ℝ) : EReal) * 1) := by
  obtain ⟨M, hM⟩ := Softmax.fold_max_real (by decide : 0 < 256) u
  rw [att_apply, Softmax.weigh (by decide) u M]
  refine Finset.sum_congr rfl fun t _ => ?_
  rw [prob_apply]
  simp only [expo_apply, hu, hM]

end Cert.ReferenceValue

end
-- ==== Proof.KernelIdealValue.lean ====
/-
The kernel's arrays at an index over the extended reals, as the reference's stages of the whole arguments.
-/
module

public import proofs.«01_k».proof.Proof.KernelIdealContents
public import proofs.«01_k».proof.Proof.ReferenceValue
public import Idealize.ShloMosaic.Lib.Pointwise
public import Idealize.ShloMosaic.Lib.Pointwise.IndexBridge
public import Idealize.ShloMosaic.Lib.Pipeline.ValueKit

@[expose] public section

set_option maxRecDepth 16384

noncomputable section

namespace Cert.KernelIdealProof

open Cert.KernelIdeal Cert.KernelIdeal.Gen Idealize.ShloMosaic Idealize.ShloMosaic.TcCoe
open Cert.ReferenceValue (lat up qry qryR keyR score)

/-! ## The payloads at an index -/

theorem pay3_apply (x : FVec Ideal S2x256x1024 .bf16) (r : Fin 512) (k : Fin 1024) :
    k0_pay3 (F := Ideal) x (ix2 r k) = x (ix3 ⟨r.val / 256, by omega⟩ ⟨r.val % 256, by omega⟩ k) := by
  pointwise [k0_pay3]

theorem pay4_apply (x : FVec Ideal S2x256x1024 .bf16) (w : FVec Ideal S1024x64 .bf16) (r : Fin 512) (e : Fin 64) :
    k0_pay4 (F := Ideal) x w (ix2 r e)
      = ∑ k : Fin 1024, x (ix3 ⟨r.val / 256, by omega⟩ ⟨r.val % 256, by omega⟩ k) * w (ix2 k e) := by
  pointwise [k0_pay4, k0_pay3]

/-- The scale of the queries: `(log 2)⁻¹ · (√96)⁻¹`. -/
abbrev qs : EReal := (((Real.log 2)⁻¹ * (Real.sqrt 96)⁻¹ : ℝ) : EReal)

theorem qscale : Named.named (F := Ideal) κ "qscale" (φ := .f32) 0x3E16C740#32 = qs :=
  IdealRules.named_const.ideal_named_scalar _ _ _ _ rfl

theorem pay5_apply (x : FVec Ideal S2x256x1024 .bf16) (w : FVec Ideal S1024x1024 .bf16) (r : Fin 512) (j : Fin 1024) :
    k0_pay5 (F := Ideal) x w (ix2 r j)
      = (∑ k : Fin 1024, x (ix3 ⟨r.val / 256, by omega⟩ ⟨r.val % 256, by omega⟩ k) * w (ix2 k j)) * qs := by
  pointwise [k0_pay5, k0_pay3]
  rw [qscale]

theorem pay6_apply (x : FVec Ideal S512x1024 .bf16) (w : FVec Ideal S1024x512 .bf16) (r : Fin 512) (j : Fin 512) :
    k0_pay6 (F := Ideal) x w (ix2 r j) = (∑ k : Fin 1024, x (ix2 r k) * w (ix2 k j)) * qs := by
  pointwise [k0_pay6]
  rw [qscale]

theorem pay7_apply (x : FVec Ideal S512x1024 .bf16) (w : FVec Ideal S1024x32 .bf16) (r : Fin 512) (j : Fin 32) :
    k0_pay7 (F := Ideal) x w (ix2 r j) = ∑ k : Fin 1024, x (ix2 r k) * w (ix2 k j) := by
  pointwise [k0_pay7]

theorem pay43_apply (c1 c2 : FVec Ideal S512x64 .bf16) (w1 w2 : FVec Ideal S64x2048 .bf16) (r : Fin 512) (j : Fin 2048) :
    k0_pay43 (F := Ideal) c1 c2 w1 w2 (ix2 r j)
      = ∑ e : Fin 64, c1 (ix2 r e) * w1 (ix2 e j) + ∑ e : Fin 64, c2 (ix2 r e) * w2 (ix2 e j) := by
  pointwise [k0_pay43]

theorem pay44_apply (r : Fin 512) : k0_pay44 (F := Ideal) (ix2 r 0) = 1 := by
  pointwise [k0_pay44]

theorem pay112_apply (q k : FVec Ideal S256x96 .bf16) (v : FVec Ideal S256x65 .bf16) (s : Fin 256) (d : Fin 64) :
    k0_pay112 (F := Ideal) q k v (ix2 s d)
      = (∑ t : Fin 256, Ideal.exp2 (∑ x : Fin 96, q (ix2 s x) * k (ix2 t x)) * v (ix2 t ⟨d.val, by omega⟩))
        * Ideal.div 1 (∑ t : Fin 256, Ideal.exp2 (∑ x : Fin 96, q (ix2 s x) * k (ix2 t x)) * v (ix2 t 64)) := by
  pointwise [k0_pay112]
  rfl

theorem pay160_apply (a : FVec Ideal S512x1024 .bf16) (w : FVec Ideal S1024x1024 .bf16) (b : Fin 2) (s : Fin 256) (e : Fin 1024) :
    k0_pay160 (F := Ideal) a w (ix3 b s e) = ∑ j : Fin 1024, a (ix2 ⟨b.val * 256 + s.val, by omega⟩ j) * w (ix2 j e) := by
  pointwise [k0_pay160]

theorem cols64_apply (x : FVec Ideal S512x1024 .bf16) (o : ℕ) (ho : o + 64 ≤ 1024) (r : Fin 512) (d : Fin 64) :
    cols64 x o ho (ix2 r d) = x (ix2 r ⟨o + d.val, by omega⟩) := by
  pointwise [cols64]

theorem cols32_apply (x : FVec Ideal S512x512 .bf16) (o : ℕ) (ho : o + 32 ≤ 512) (r : Fin 512) (d : Fin 32) :
    cols32 x o ho (ix2 r d) = x (ix2 r ⟨o + d.val, by omega⟩) := by
  pointwise [cols32]

theorem cols64r_apply (x : FVec Ideal S512x2048 .f32) (o : ℕ) (ho : o + 64 ≤ 2048) (r : Fin 512) (d : Fin 64) :
    cols64r x o ho (ix2 r d) = x (ix2 r ⟨o + d.val, by omega⟩) := by
  pointwise [cols64r]

/-! ## The arguments -/

variable (m : (ℓ : Loc nD τ sig) → Buf (Elt Ideal) ℓ)

/-- A device's coordinate along the mesh's second axis. -/
def yOf (c : Dev nD) : ℕ := c.val / 4 % 2

theorem yOf_lt (c : Dev nD) : yOf c < 2 := Nat.mod_lt _ (by decide)

theorem yOf_peer (c : Dev nD) : yOf (peer c) = 1 - yOf c := by
  revert c; decide +kernel

/-- The devices hold whole arrays and halves of the arrays `X`, …, `O`: the latent's projection is split by columns, the two
    up-projections by rows. -/
structure Args (X : FVec Ideal S2x256x1024 .bf16) (D : FVec Ideal Cert.ReferenceIdeal.S1024x128 .bf16) (U V : FVec Ideal Cert.ReferenceIdeal.S128x1024 .bf16)
    (Q : FVec Ideal S1024x1024 .bf16) (R : FVec Ideal S1024x512 .bf16) (K : FVec Ideal S1024x32 .bf16) (O : FVec Ideal S1024x1024 .bf16) : Prop where
  x : ∀ c, x0 m c = X
  d : ∀ c (k : Fin 1024) (e : Fin 64), x1 m c (ix2 k e) = D (ix2 k ⟨yOf c * 64 + e.val, by have := yOf_lt c; omega⟩)
  u : ∀ c (e : Fin 64) (j : Fin 1024), x2 m c (ix2 e j) = U (ix2 ⟨yOf c * 64 + e.val, by have := yOf_lt c; omega⟩ j)
  v : ∀ c (e : Fin 64) (j : Fin 1024), x3 m c (ix2 e j) = V (ix2 ⟨yOf c * 64 + e.val, by have := yOf_lt c; omega⟩ j)
  q : ∀ c, x4 m c = Q
  r : ∀ c, x5 m c = R
  k : ∀ c, x6 m c = K
  o : ∀ c, x7 m c = O

variable {m} {X : FVec Ideal S2x256x1024 .bf16} {D : FVec Ideal Cert.ReferenceIdeal.S1024x128 .bf16}
  {U V : FVec Ideal Cert.ReferenceIdeal.S128x1024 .bf16} {Q : FVec Ideal S1024x1024 .bf16} {R : FVec Ideal S1024x512 .bf16}
  {K : FVec Ideal S1024x32 .bf16} {O : FVec Ideal S1024x1024 .bf16} (h : Args m X D U V Q R K O) (c : Dev nD)

/-- Row `256 b + s` of the flattened rows. -/
abbrev row (b : Fin 2) (s : Fin 256) : Fin 512 := ⟨256 * b.val + s.val, by omega⟩

theorem ix3_row (b : Fin 2) (s : Fin 256) (k : Fin 1024) :
    (ix3 ⟨(row b s).val / 256, by omega⟩ ⟨(row b s).val % 256, by omega⟩ k : S2x256x1024.Idx) = ix3 b s k :=
  congrArg₂ (fun (b' : Fin 2) (s' : Fin 256) => (ix3 b' s' k : S2x256x1024.Idx)) (Fin.ext (by show (256 * b.val + s.val) / 256 = _; omega))
    (Fin.ext (by show (256 * b.val + s.val) % 256 = _; omega))

include h

/-! ## The halves -/

/-- The latent half at an index: the reference's latent at the device's columns. -/
theorem cHalf_apply (b : Fin 2) (s : Fin 256) (e : Fin 64) :
    cHalf m c (ix2 (row b s) e) = lat X D (ix3 b s ⟨yOf c * 64 + e.val, by have := yOf_lt c; omega⟩) := by
  rw [Cert.ReferenceValue.lat_apply]
  refine (pay4_apply (x0 m c) (x1 m c) (row b s) e).trans (Finset.sum_congr rfl fun k _ => ?_)
  rw [h.x, h.d, ix3_row]

omit h in
/-- The half of the two up-projections a device sends, as an array. -/
theorem wHalf_eq : wHalf m c = (fun i : S64x2048.Idx =>
    if hi : (i 1).val < 1024 then x2 m c (ix2 (i 0) ⟨(i 1).val, hi⟩)
    else x3 m c (ix2 (i 0) ⟨(i 1).val - 1024, by have : (i 1).val < 2048 := (i 1).isLt; omega⟩) : FVec Ideal S64x2048 .bf16) := by
  refine writes_eq (b := cc0_scratch2) _ _ _ ?_ fun y => .inl ?_
  · intro p hp
    rcases List.mem_cons.mp hp with rfl | hp
    · intro (x : S64x1024.Idx)
      obtain ⟨e, j, rfl⟩ : ∃ (e : Fin 64) (j : Fin 1024), x = ix2 e j := ⟨x 0, x 1, eq_ix2 x⟩
      refine .trans (b := x3 m c (ix2 e j)) (by pointwise [k0_pay2]) ?_
      refine .trans ?_ (dif_neg (by show ¬ 1024 + 1 * j.val < 1024; omega)).symm
      refine congrArg (x3 m c) (congrArg₂ ix2 (Fin.ext ?_) (Fin.ext ?_))
      · show e.val = 0 + 1 * e.val; omega
      · show j.val = 1024 + 1 * j.val - 1024; omega
    · obtain rfl := List.mem_singleton.mp hp
      intro (x : S64x1024.Idx)
      obtain ⟨e, j, rfl⟩ : ∃ (e : Fin 64) (j : Fin 1024), x = ix2 e j := ⟨x 0, x 1, eq_ix2 x⟩
      refine .trans (b := x2 m c (ix2 e j)) (by pointwise [k0_pay1]) ?_
      refine .trans ?_ (dif_pos (by show 0 + 1 * j.val < 1024; omega)).symm
      refine congrArg (x2 m c) (congrArg₂ ix2 (Fin.ext ?_) (Fin.ext ?_))
      · show e.val = 0 + 1 * e.val; omega
      · show j.val = 0 + 1 * j.val; omega
  · have h0 : (y 0).val < 64 := (y 0).isLt
    have h1 : (y 1).val < 2048 := (y 1).isLt
    by_cases hy : (y 1).val < 1024
    · exact ⟨_, List.mem_cons_of_mem _ (List.mem_singleton.mpr rfl), mem_unit2 (hb := inb_S64x2048_S64x1024_0_0) y ⟨by omega, by omega⟩ ⟨by omega, by omega⟩⟩
    · exact ⟨_, List.mem_cons_self, mem_unit2 (hb := inb_S64x2048_S64x1024_0_1024) y ⟨by omega, by omega⟩ ⟨by omega, by omega⟩⟩

theorem wHalf_u (e : Fin 64) (j : Fin 1024) :
    wHalf m c (ix2 e ⟨j.val, by omega⟩) = U (ix2 ⟨yOf c * 64 + e.val, by have := yOf_lt c; omega⟩ j) := by
  rw [wHalf_eq, ← h.u]
  exact dif_pos (show j.val < 1024 from j.isLt)

theorem wHalf_v (e : Fin 64) (j : Fin 1024) :
    wHalf m c (ix2 e ⟨1024 + j.val, by omega⟩) = V (ix2 ⟨yOf c * 64 + e.val, by have := yOf_lt c; omega⟩ j) := by
  rw [wHalf_eq, ← h.v]
  refine (dif_neg (show ¬ 1024 + j.val < 1024 by omega)).trans ?_
  exact congrArg (fun j' : Fin 1024 => x3 m c (ix2 e j')) (Fin.ext (by show 1024 + j.val - 1024 = _; omega))

/-! ## Keys and values -/

/-- The keys' columns of the joint product are the reference's keys. -/
theorem kv_key (b : Fin 2) (s : Fin 256) (g : Fin 16) (d : Fin 64) :
    kvAll m c (ix2 (row b s) ⟨64 * g.val + d.val, by omega⟩) = up (lat X D) U (ix4 b s g d) := by
  refine (pay43_apply _ _ _ _ _ _).trans ?_
  rw [Cert.ReferenceValue.up_apply, ← Softmax.sum_halves _ (yOf c) (yOf_lt c)]
  refine congrArg₂ (· + ·) (Finset.sum_congr rfl fun e _ => ?_) (Finset.sum_congr rfl fun e _ => ?_)
  · rw [cHalf_apply h, wHalf_u h c e ⟨64 * g.val + d.val, by omega⟩]
    simp only [Nat.mul_comm 64 g.val]
  · rw [cHalf_apply h, wHalf_u h (peer c) e ⟨64 * g.val + d.val, by omega⟩]
    simp only [Nat.mul_comm 64 g.val, yOf_peer]

/-- The values' columns of the joint product are the reference's values. -/
theorem kv_val (b : Fin 2) (s : Fin 256) (g : Fin 16) (d : Fin 64) :
    kvAll m c (ix2 (row b s) ⟨1024 + 64 * g.val + d.val, by omega⟩) = up (lat X D) V (ix4 b s g d) := by
  refine (pay43_apply _ _ _ _ _ _).trans ?_
  rw [Cert.ReferenceValue.up_apply, ← Softmax.sum_halves _ (yOf c) (yOf_lt c)]
  have e0 : (⟨1024 + 64 * g.val + d.val, by omega⟩ : Fin 2048) = ⟨1024 + (⟨g.val * 64 + d.val, by omega⟩ : Fin 1024).val, by omega⟩ :=
    Fin.ext (by show 1024 + 64 * g.val + d.val = 1024 + (g.val * 64 + d.val); omega)
  rw [e0]
  refine congrArg₂ (· + ·) (Finset.sum_congr rfl fun e _ => ?_) (Finset.sum_congr rfl fun e _ => ?_)
  · rw [cHalf_apply h, wHalf_v h c e]
  · rw [cHalf_apply h, wHalf_v h (peer c) e]
    simp only [yOf_peer]

end Cert.KernelIdealProof

end
-- ==== Proof.KernelIdealResult.lean ====
/-
The kernel's result over the extended reals is the reference's, where the arrays the scores depend on hold reals.
-/
module

public import proofs.«01_k».proof.Proof.KernelIdealValue

@[expose] public section

set_option maxRecDepth 16384

noncomputable section

namespace Cert.KernelIdealProof

open Cert.KernelIdeal Cert.KernelIdeal.Gen Idealize.ShloMosaic Idealize.ShloMosaic.TcCoe
open Cert.ReferenceValue (lat up qry qryR keyR score expo prob att res)
open Cert.Softmax (IsReal)

variable {m : (ℓ : Loc nD τ sig) → Buf (Elt Ideal) ℓ} {X : FVec Ideal S2x256x1024 .bf16} {D : FVec Ideal Cert.ReferenceIdeal.S1024x128 .bf16}
  {U V : FVec Ideal Cert.ReferenceIdeal.S128x1024 .bf16} {Q : FVec Ideal S1024x1024 .bf16} {R : FVec Ideal S1024x512 .bf16}
  {K : FVec Ideal S1024x32 .bf16} {O : FVec Ideal S1024x1024 .bf16} (h : Args m X D U V Q R K O) (c : Dev nD)

/-! ## The packed buffers -/

include h

/-- A head's queries: the reference's, scaled. -/
theorem qq_left (b : Fin 2) (g : Fin 16) (y : S512x1536.Idx) (s : Fin 256) (d : Fin 64)
    (h0 : (y 0).val = 256 * b.val + s.val) (h1 : (y 1).val = 96 * g.val + d.val) :
    qqAll m c y = qry X Q (ix4 b s g d) * qs := by
  refine (pack_left _ _ y g (row b s) d h0 h1).trans ?_
  rw [← ix2_eq_valueIdx, cols64_apply, Cert.ReferenceValue.qry_apply]
  refine (pay5_apply _ _ _ _).trans (congrArg (· * qs) (Finset.sum_congr rfl fun k _ => ?_))
  rw [h.x, h.q, ix3_row]
  simp only [Nat.mul_comm 64 g.val]

/-- A head's rotary queries: the reference's, scaled. -/
theorem qq_right (b : Fin 2) (g : Fin 16) (y : S512x1536.Idx) (s : Fin 256) (d : Fin 32)
    (h0 : (y 0).val = 256 * b.val + s.val) (h1 : (y 1).val = 96 * g.val + 64 + d.val) :
    qqAll m c y = qryR X R (ix4 b s g d) * qs := by
  refine (pack_right _ _ y g (row b s) d h0 h1).trans ?_
  rw [← ix2_eq_valueIdx, cols32_apply, Cert.ReferenceValue.qryR_apply]
  refine (pay6_apply _ _ _ _).trans (congrArg (· * qs) (Finset.sum_congr rfl fun k _ => ?_))
  rw [pay3_apply, h.x, h.r, ix3_row]
  simp only [Nat.mul_comm 32 g.val]

/-- A head's keys are the reference's. -/
theorem kk_left (b : Fin 2) (g : Fin 16) (y : S512x1536.Idx) (s : Fin 256) (d : Fin 64)
    (h0 : (y 0).val = 256 * b.val + s.val) (h1 : (y 1).val = 96 * g.val + d.val) :
    kkAll m c y = up (lat X D) U (ix4 b s g d) := by
  refine (pack_left _ _ y g (row b s) d h0 h1).trans ?_
  rw [← ix2_eq_valueIdx, cols64r_apply]
  exact kv_key h c b s g d

/-- A head's rotary keys are the reference's. -/
theorem kk_right (b : Fin 2) (g : Fin 16) (y : S512x1536.Idx) (s : Fin 256) (d : Fin 32)
    (h0 : (y 0).val = 256 * b.val + s.val) (h1 : (y 1).val = 96 * g.val + 64 + d.val) :
    kkAll m c y = keyR X K (ix4 b s g d) := by
  refine (pack_right _ _ y g (row b s) d h0 h1).trans ?_
  rw [← ix2_eq_valueIdx, Cert.ReferenceValue.keyR_apply]
  refine .trans (b := krAll m c (ix2 (row b s) d)) (by pointwise) ?_
  refine (pay7_apply _ _ _ _).trans (Finset.sum_congr rfl fun k _ => ?_)
  rw [pay3_apply, h.x, h.k, ix3_row]

/-- A head's values are the reference's. -/
theorem vv_left (f : FVec Ideal S512x2048 .bf16) (b : Fin 2) (g : Fin 16) (y : S512x2048.Idx) (s : Fin 256) (d : Fin 64)
    (h0 : (y 0).val = 256 * b.val + s.val) (h1 : (y 1).val = 128 * g.val + d.val) :
    vvAll m c f y = up (lat X D) V (ix4 b s g d) := by
  refine (packV_left f _ _ y g (row b s) d h0 h1).trans ?_
  rw [← ix2_eq_valueIdx, cols64r_apply]
  exact kv_val h c b s g d

omit h in
/-- After a head's values stands a one. -/
theorem vv_one (f : FVec Ideal S512x2048 .bf16) (b : Fin 2) (g : Fin 16) (y : S512x2048.Idx) (s : Fin 256)
    (h0 : (y 0).val = 256 * b.val + s.val) (h1 : (y 1).val = 128 * g.val + 64) : vvAll m c f y = 1 := by
  refine (packV_one f _ _ y g (row b s) h0 h1).trans ?_
  rw [← ix2_eq_valueIdx]
  exact .trans (b := k0_pay44 (F := Ideal) (ix2 (row b s) 0)) (by pointwise) (pay44_apply _)

/-! ## One block of the attention -/

/-- The products' sum of a query's row and a key's row, as the two parts the reference adds. -/
theorem dot_eq (b : Fin 2) (g : Fin 16) (s t : Fin 256) :
    ∑ x : Fin 96, qqAll m c ((rectQK b g).emb (ix2 s x)) * kkAll m c ((rectQK b g).emb (ix2 t x))
      = ∑ d : Fin 64, qry X Q (ix4 b s g d) * qs * up (lat X D) U (ix4 b t g d)
        + ∑ d : Fin 32, qryR X R (ix4 b s g d) * qs * keyR X K (ix4 b t g d) := by
  have p0 : ∀ (s : Fin 256) (x : Fin 96), (((rectQK b g).emb (ix2 s x)) 0).val = 256 * b.val + s.val := fun s x => by
    show 256 * b.val + 1 * s.val = _; omega
  have p1 : ∀ (s : Fin 256) (x : Fin 96), (((rectQK b g).emb (ix2 s x)) 1).val = 96 * g.val + x.val := fun s x => by
    show 96 * g.val + 1 * x.val = _; omega
  rw [Fin.sum_univ_add (a := 64) (b := 32)]
  refine congrArg₂ (· + ·) (Finset.sum_congr rfl fun d _ => ?_) (Finset.sum_congr rfl fun d _ => ?_)
  · rw [qq_left h c b g _ s d (p0 _ _) (p1 _ _), kk_left h c b g _ t d (p0 _ _) (p1 _ _)]
  · have e : ∀ s, (((rectQK b g).emb (ix2 s (Fin.natAdd 64 d))) 1).val = 96 * g.val + 64 + d.val := fun s =>
      (p1 s _).trans (by show 96 * g.val + (64 + d.val) = _; omega)
    rw [qq_right h c b g _ s d (p0 _ _) (e s), kk_right h c b g _ t d (p0 _ _) (e t)]

/-- The arrays the scores depend on hold reals. -/
structure Finite (X : FVec Ideal S2x256x1024 .bf16) (D : FVec Ideal Cert.ReferenceIdeal.S1024x128 .bf16)
    (U : FVec Ideal Cert.ReferenceIdeal.S128x1024 .bf16) (Q : FVec Ideal S1024x1024 .bf16) (R : FVec Ideal S1024x512 .bf16)
    (K : FVec Ideal S1024x32 .bf16) : Prop where
  x : ∀ i, IsReal (X i)
  d : ∀ i, IsReal (D i)
  u : ∀ i, IsReal (U i)
  q : ∀ i, IsReal (Q i)
  r : ∀ i, IsReal (R i)
  k : ∀ i, IsReal (K i)

variable (hf : Finite X D U Q R K)

include hf

/-- A score is a real, and the kernel's power of two is its exponential. -/
theorem exists_score (b : Fin 2) (g : Fin 16) (s t : Fin 256) :
    ∃ u : ℝ, score (qry X Q) (up (lat X D) U) (qryR X R) (keyR X K) (ix4 b g s t) = (u : EReal) ∧
      Ideal.exp2 (∑ x : Fin 96, qqAll m c ((rectQK b g).emb (ix2 s x)) * kkAll m c ((rectQK b g).emb (ix2 t x)))
        = ((Real.exp u : ℝ) : EReal) := by
  rw [Cert.ReferenceValue.score_apply, dot_eq h]
  refine Softmax.score_real _ _ _ _ (fun d => ?_) (fun d => ?_) (fun d => ?_) (fun d => ?_)
  · rw [Cert.ReferenceValue.qry_apply]
    exact .sum _ fun k => (hf.x _).mul (hf.q _)
  · rw [Cert.ReferenceValue.up_apply]
    refine .sum _ fun k => .mul ?_ (hf.u _)
    rw [Cert.ReferenceValue.lat_apply]
    exact .sum _ fun k => (hf.x _).mul (hf.d _)
  · rw [Cert.ReferenceValue.qryR_apply]
    exact .sum _ fun k => (hf.x _).mul (hf.r _)
  · rw [Cert.ReferenceValue.keyR_apply]
    exact .sum _ fun k => (hf.x _).mul (hf.k _)

/-- The kernel's attention is the reference's. -/
theorem attn_apply (b : Fin 2) (s : Fin 256) (j : Fin 1024) :
    attn m c (ix2 ⟨b.val * 256 + s.val, by omega⟩ j)
      = att (up (lat X D) V) (prob (expo (score (qry X Q) (up (lat X D) U) (qryR X R) (keyR X K)))) (ix3 b s j) := by
  choose u hu hw using fun t => exists_score h c hf b ⟨j.val / 64, by omega⟩ s t
  rw [Cert.ReferenceValue.att_eq _ _ b s j u hu]
  refine (attnAll_eq _ _ b ⟨j.val / 64, by omega⟩ s ⟨j.val % 64, by omega⟩ (by show b.val * 256 + s.val = _; omega)
    (by show j.val = 64 * (j.val / 64) + j.val % 64; omega)).trans ?_
  rw [← ix2_eq_valueIdx]
  refine (pay112_apply _ _ _ _ _).trans (congrArg₂ (· * ·) (Finset.sum_congr rfl fun t _ => congrArg₂ (· * ·) (hw t) ?_)
    (congrArg (Ideal.div 1) (Finset.sum_congr rfl fun t _ => congrArg₂ (· * ·) (hw t) ?_)))
  · refine vv_left h c _ b ⟨j.val / 64, by omega⟩ _ t ⟨j.val % 64, by omega⟩ ?_ ?_
    · show 256 * b.val + 1 * t.val = _; omega
    · show 128 * (j.val / 64) + 1 * (j.val % 64) = 128 * (j.val / 64) + j.val % 64; omega
  · refine vv_one c _ b ⟨j.val / 64, by omega⟩ _ t ?_ ?_
    · show 256 * b.val + 1 * t.val = _; omega
    · show 128 * (j.val / 64) + 1 * 64 = 128 * (j.val / 64) + 64; omega

/-- The kernel's result is the reference's. -/
theorem outAll_eq : outAll m c
    = res (att (up (lat X D) V) (prob (expo (score (qry X Q) (up (lat X D) U) (qryR X R) (keyR X K))))) O := by
  funext (i : S2x256x1024.Idx)
  obtain ⟨b, s, e, rfl⟩ : ∃ (b : Fin 2) (s : Fin 256) (e : Fin 1024), i = ix3 b s e :=
    ⟨i 0, i 1, i 2, by funext a; fin_cases a <;> rfl⟩
  rw [Cert.ReferenceValue.res_apply]
  refine (pay160_apply _ _ _ _ _).trans (Finset.sum_congr rfl fun j _ => ?_)
  rw [attn_apply h c hf, h.o]

end Cert.KernelIdealProof

end
-- ==== Proof.Algebraic.lean ====
/-
The value claim: on every device the kernel's result is the reference's result.
-/
module

public import proofs.«01_k».proof.Proof.Precondition
public import proofs.«01_k».proof.Proof.KernelIdealResult
public import proofs.«01_k».proof.Proof.KernelIdealLaunch
public import proofs.«01_k».proof.Proof.Gen.ReferenceIdeal.Run
public import Idealize.ShloMosaic.Lib.Pipeline.ValueKit

@[expose] public section

set_option maxRecDepth 16384

noncomputable section

namespace Cert.Algebraic

open Idealize.ShloMosaic Idealize.ShloMosaic.TcCoe Cert.Softmax
open Cert.KernelIdeal Cert.KernelIdeal.Gen Cert.KernelIdealProof
open Cert.ReferenceValue (a0 a1 a2 a3 a4 a5 a6 a7)

variable (m : (ℓ : Loc nD τ sig) → Buf (Elt Ideal) ℓ) (c : Dev nD)

/-! ## An input window's block is its whole array -/

theorem x0_eq : x0 m c = m ((c : Thread nD τ).loc main_arg0) := funext fun i =>
  congrArg (m ((c : Thread nD τ).loc main_arg0)) (funext fun a => Fin.ext (by fin_cases a <;> (blk_simp; exact Nat.zero_add _)))
theorem x1_eq : x1 m c = m ((c : Thread nD τ).loc main_arg1) := funext fun i =>
  congrArg (m ((c : Thread nD τ).loc main_arg1)) (funext fun a => Fin.ext (by fin_cases a <;> (blk_simp; exact Nat.zero_add _)))
theorem x2_eq : x2 m c = m ((c : Thread nD τ).loc main_arg2) := funext fun i =>
  congrArg (m ((c : Thread nD τ).loc main_arg2)) (funext fun a => Fin.ext (by fin_cases a <;> (blk_simp; exact Nat.zero_add _)))
theorem x3_eq : x3 m c = m ((c : Thread nD τ).loc main_arg3) := funext fun i =>
  congrArg (m ((c : Thread nD τ).loc main_arg3)) (funext fun a => Fin.ext (by fin_cases a <;> (blk_simp; exact Nat.zero_add _)))
theorem x4_eq : x4 m c = m ((c : Thread nD τ).loc main_arg4) := funext fun i =>
  congrArg (m ((c : Thread nD τ).loc main_arg4)) (funext fun a => Fin.ext (by fin_cases a <;> (blk_simp; exact Nat.zero_add _)))
theorem x5_eq : x5 m c = m ((c : Thread nD τ).loc main_arg5) := funext fun i =>
  congrArg (m ((c : Thread nD τ).loc main_arg5)) (funext fun a => Fin.ext (by fin_cases a <;> (blk_simp; exact Nat.zero_add _)))
theorem x6_eq : x6 m c = m ((c : Thread nD τ).loc main_arg6) := funext fun i =>
  congrArg (m ((c : Thread nD τ).loc main_arg6)) (funext fun a => Fin.ext (by fin_cases a <;> (blk_simp; exact Nat.zero_add _)))
theorem x7_eq : x7 m c = m ((c : Thread nD τ).loc main_arg7) := funext fun i =>
  congrArg (m ((c : Thread nD τ).loc main_arg7)) (funext fun a => Fin.ext (by fin_cases a <;> (blk_simp; exact Nat.zero_add _)))

/-! ## The devices' halves -/

/-- Half of the columns. -/
theorem block_cols (v : FVec Ideal Cert.ReferenceIdeal.S1024x128 .bf16) (k : Fin 1024) (e : Fin 64) :
    Layout.blockN ⟨2, ![1024, 64]⟩ ⟨2, ![1024, 128]⟩ (Layout.meshBlock [2, 2, 4] ![[], [1]] c) v (by decide) (ix2 k e)
      = v (ix2 k ⟨yOf c * 64 + e.val, by have := yOf_lt c; omega⟩) := by
  rw [Layout.blockN_apply]
  refine congrArg v (funext fun a => Fin.ext ?_)
  match a with
  | 0 => exact (Layout.TilesN.idx_val _ _ _ _).trans (by show 0 * 1024 + k.val = k.val; omega)
  | 1 => exact (Layout.TilesN.idx_val _ _ _ _).trans (by show (c.val / 4 % 2 * 1 + 0) * 64 + e.val = c.val / 4 % 2 * 64 + e.val; omega)

/-- Half of the rows. -/
theorem block_rows (v : FVec Ideal Cert.ReferenceIdeal.S128x1024 .bf16) (e : Fin 64) (k : Fin 1024) :
    Layout.blockN ⟨2, ![64, 1024]⟩ ⟨2, ![128, 1024]⟩ (Layout.meshBlock [2, 2, 4] ![[1], []] c) v (by decide) (ix2 e k)
      = v (ix2 ⟨yOf c * 64 + e.val, by have := yOf_lt c; omega⟩ k) := by
  rw [Layout.blockN_apply]
  refine congrArg v (funext fun a => Fin.ext ?_)
  match a with
  | 0 => exact (Layout.TilesN.idx_val _ _ _ _).trans (by show (c.val / 4 % 2 * 1 + 0) * 64 + e.val = c.val / 4 % 2 * 64 + e.val; omega)
  | 1 => exact (Layout.TilesN.idx_val _ _ _ _).trans (by show 0 * 1024 + k.val = k.val; omega)

/-- Either half is some device's. -/
theorem exists_half (e : Fin 128) : ∃ (c : Dev nD) (e' : Fin 64), yOf c * 64 + e'.val = e.val := by
  by_cases he : e.val < 64
  · exact ⟨0, ⟨e.val, he⟩, by show 0 * 64 + e.val = _; omega⟩
  · exact ⟨4, ⟨e.val - 64, by omega⟩, by show 1 * 64 + (e.val - 64) = _; omega⟩

/-! ## The claim -/

/-- Where every array the scores depend on holds reals, and every device holds its blocks of the reference's arguments, both
    runs end with their arguments unchanged, and every device's result is the reference's. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Precondition.facts_kernel) := by
  intro m g m' g' hp h
  have ha : Args m (a0 m' 0) (a1 m' 0) (a2 m' 0) (a3 m' 0) (a4 m' 0) (a5 m' 0) (a6 m' 0) (a7 m' 0) :=
    { x := fun c => (x0_eq m c).trans (h c).1
      d := fun c k e => (congrFun ((x1_eq m c).trans (h c).2.1) _).trans (block_cols c _ k e)
      u := fun c e j => (congrFun ((x2_eq m c).trans (h c).2.2.1) _).trans (block_rows c _ e j)
      v := fun c e j => (congrFun ((x3_eq m c).trans (h c).2.2.2.1) _).trans (block_rows c _ e j)
      q := fun c => (x4_eq m c).trans (h c).2.2.2.2.1
      r := fun c => (x5_eq m c).trans (h c).2.2.2.2.2.1
      k := fun c => (x6_eq m c).trans (h c).2.2.2.2.2.2.1
      o := fun c => (x7_eq m c).trans (h c).2.2.2.2.2.2.2 }
  have hf : Finite (a0 m' 0) (a1 m' 0) (a2 m' 0) (a4 m' 0) (a5 m' 0) (a6 m' 0) :=
    { x := fun i => by
        rw [← ha.x 0, x0_eq]; exact Cert.Precondition.isReal_of_lt _ _ (hp 0).1 i
      d := fun i => by
        obtain ⟨k, e, rfl⟩ : ∃ (k : Fin 1024) (e : Fin 128), i = ix2 k e := ⟨i 0, i 1, by funext a; fin_cases a <;> rfl⟩
        obtain ⟨c, e', he⟩ := exists_half e
        rw [show e = ⟨yOf c * 64 + e'.val, by omega⟩ from Fin.ext he.symm, ← ha.d c k e', x1_eq]
        exact Cert.Precondition.isReal_of_lt _ _ (hp c).2.1 _
      u := fun i => by
        obtain ⟨e, k, rfl⟩ : ∃ (e : Fin 128) (k : Fin 1024), i = ix2 e k := ⟨i 0, i 1, by funext a; fin_cases a <;> rfl⟩
        obtain ⟨c, e', he⟩ := exists_half e
        rw [show e = ⟨yOf c * 64 + e'.val, by omega⟩ from Fin.ext he.symm, ← ha.u c e' k, x2_eq]
        exact Cert.Precondition.isReal_of_lt _ _ (hp c).2.2.1 _
      q := fun i => by
        rw [← ha.q 0, x4_eq]; exact Cert.Precondition.isReal_of_lt _ _ (hp 0).2.2.2.1 i
      r := fun i => by
        rw [← ha.r 0, x5_eq]; exact Cert.Precondition.isReal_of_lt _ _ (hp 0).2.2.2.2.1 i
      k := fun i => by
        rw [← ha.k 0, x6_eq]; exact Cert.Precondition.isReal_of_lt _ _ (hp 0).2.2.2.2.2 i }
  refine ⟨Cert.ReferenceIdeal.Value.res_main_v43 m' 0, ?_, ?_⟩
  · refine (θ_run Cert.KernelIdeal.defs _ _).mono (fun r hr c => ?_) (Cert.KernelIdealProof.run (F := Ideal) m g)
    have l := hr.1 c
    exact ⟨l.out.trans ((outAll_eq ha c hf).trans (Cert.ReferenceValue.res_eq m' 0).symm), l.a0, l.a1, l.a2, l.a3, l.a4, l.a5, l.a6, l.a7⟩
  · exact (θ_run Cert.ReferenceIdeal.defs _ _).mono (fun r hr => hr 0) (Cert.ReferenceIdeal.Value.run (F := Ideal) m' g')

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.Algebraic
public import Idealize.ShloMosaic.Adequacy
public import Idealize.ShloMosaic.Init
public import Idealize.ShloMosaic.Lib.Quiescent

@[expose] public section

noncomputable section

namespace Cert.Proof

open Idealize.ShloMosaic Idealize.SL.Sem

/-- The kernel at machine words: from any memory its run ends, leaves each device's eight arguments as they were, and
    every semaphore counter at zero. -/
theorem frame_p : Cert.quiescent_Kernel := fun m ρ _ =>
  (θ_run Cert.Kernel.defs _ _).mono (fun _ h => ⟨fun c => ⟨(h.1 c).a0, (h.1 c).a1, (h.1 c).a2, (h.1 c).a3,
      (h.1 c).a4, (h.1 c).a5, (h.1 c).a6, (h.1 c).a7⟩, h.2⟩)
    (Cert.KernelProof.run (F := Bits) m ρ)

/-- The same of the idealized kernel, over the extended reals. -/
theorem frame_pi : Cert.quiescent_KernelIdeal := fun m ρ _ =>
  (θ_run Cert.KernelIdeal.defs _ _).mono (fun _ h => ⟨fun c => ⟨(h.1 c).a0, (h.1 c).a1, (h.1 c).a2, (h.1 c).a3,
      (h.1 c).a4, (h.1 c).a5, (h.1 c).a6, (h.1 c).a7⟩, h.2⟩)
    (Cert.KernelIdealProof.run (F := Ideal) m ρ)

/-- The reference's run ends with its arguments as they were; it declares no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The one named constant: the certificate's table gives `qscale` the real `(log 2)⁻¹ · (√96)⁻¹`. -/
theorem preserves : Cert.preserves_Kernel_KernelIdeal :=
  IdealRules.named_const.statement Cert.KernelIdeal.κ "qscale" .f32 0x3E16C740#32
    (((Real.log 2)⁻¹ * (Real.sqrt 96)⁻¹ : ℝ) : EReal) rfl

theorem claim : Cert.Claim := ⟨Cert.Kernel.Gen.facts, Cert.KernelIdeal.Gen.facts, Cert.ReferenceIdeal.Gen.facts,
  Cert.Precondition.facts_kernel, Cert.Precondition.facts_reference,
  frame_p, frame_pi, fun m ρ _ => frame_pi m ρ trivial, frame_ri, fun m ρ _ => frame_ri m ρ trivial, preserves, Cert.Algebraic.algebraic⟩

end Cert.Proof

end
